-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v6)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v6) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v19) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hPre_edges_in_range : Cert.Pre_edges_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_ReferenceIdeal (hReferenceIdeal := hReferenceIdeal) (hPre_edges_in_range := hPre_edges_in_range)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal (hKernelIdeal := hKernelIdeal) (hReferenceIdeal := hReferenceIdeal) (hPre_edges_in_range := hPre_edges_in_range)
    ∧ preserves_Combine_CombineIdeal
    ∧ algebraic_CombineIdeal_CombineReferenceIdeal (hCombineIdeal := hCombineIdeal) (hCombineReferenceIdeal := hCombineReferenceIdeal)
-- ==== Pre_edges_in_range.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  main_v4
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1000x128 : Shape := ⟨2, ![1000, 128]⟩
abbrev S_ : Shape := ⟨0, ![]⟩
abbrev S112x128 : Shape := ⟨2, ![112, 128]⟩
abbrev S20224x128 : Shape := ⟨2, ![20224, 128]⟩
abbrev S1x320000 : Shape := ⟨2, ![1, 320000]⟩
abbrev S320000 : Shape := ⟨1, ![320000]⟩
abbrev S7680 : Shape := ⟨1, ![7680]⟩
abbrev S327680 : Shape := ⟨1, ![327680]⟩
abbrev S655360 : Shape := ⟨1, ![655360]⟩
abbrev S320x16x128 : Shape := ⟨3, ![320, 16, 128]⟩
abbrev S160x16x128 : Shape := ⟨3, ![160, 16, 128]⟩
abbrev S10112x128 : Shape := ⟨2, ![10112, 128]⟩
abbrev S655360x128 : Shape := ⟨2, ![655360, 128]⟩
abbrev S16x128 : Shape := ⟨2, ![16, 128]⟩
abbrev S1x16x128 : Shape := ⟨3, ![1, 16, 128]⟩
abbrev S1x128 : Shape := ⟨2, ![1, 128]⟩
abbrev S327680x128 : Shape := ⟨2, ![327680, 128]⟩
abbrev S327680x1 : Shape := ⟨2, ![327680, 1]⟩

abbrev nBuf : Table → Nat
  | .hbm => 57
  | .local .tc .vmem => 18
  | .local .scVector .vmem => 3
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S112x128, .f32⟩
  | .hbm, ⟨10, _⟩ => ⟨S20224x128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S7680, .i32⟩
  | .hbm, ⟨17, _⟩ => ⟨S327680, .i32⟩
  | .hbm, ⟨18, _⟩ => ⟨S327680, .i32⟩
  | .hbm, ⟨19, _⟩ => ⟨S_, .i32⟩
  | .hbm, ⟨20, _⟩ => ⟨S327680, .i32⟩
  | .hbm, ⟨21, _⟩ => ⟨S327680, .i32⟩
  | .hbm, ⟨22, _⟩ => ⟨S655360, .i32⟩
  | .hbm, ⟨23, _⟩ => ⟨S320x16x128, .i32⟩
  | .hbm, ⟨24, _⟩ => ⟨S160x16x128, .i32⟩
  | .hbm, ⟨25, _⟩ => ⟨S_, .f32⟩
  | .hbm, ⟨26, _⟩ => ⟨S10112x128, .f32⟩
  | .hbm, ⟨27, _⟩ => ⟨S655360x128, .f32⟩
  | .hbm, ⟨28, _⟩ => ⟨S327680, .i32⟩
  | .hbm, ⟨29, _⟩ => ⟨S327680x128, .f32⟩
  | .hbm, ⟨30, _⟩ => ⟨S_, .i32⟩
  | .hbm, ⟨31, _⟩ => ⟨S327680, .i32⟩
  | .hbm, ⟨32, _⟩ => ⟨S327680, .i1⟩
  | .hbm, ⟨33, _⟩ => ⟨S_, .i32⟩
  | .hbm, ⟨34, _⟩ => ⟨S327680, .i32⟩
  | .hbm, ⟨35, _⟩ => ⟨S327680, .i32⟩
  | .hbm, ⟨36, _⟩ => ⟨S327680, .i32⟩
  | .hbm, ⟨37, _⟩ => ⟨S327680x1, .i32⟩
  | .hbm, ⟨38, _⟩ => ⟨S10112x128, .f32⟩
  | .hbm, ⟨39, _⟩ => ⟨S327680x128, .f32⟩
  | .hbm, ⟨40, _⟩ => ⟨S_, .i32⟩
  | .hbm, ⟨41, _⟩ => ⟨S327680, .i32⟩
  | .hbm, ⟨42, _⟩ => ⟨S327680, .i1⟩
  | .hbm, ⟨43, _⟩ => ⟨S_, .i32⟩
  | .hbm, ⟨44, _⟩ => ⟨S327680, .i32⟩
  | .hbm, ⟨45, _⟩ => ⟨S327680, .i32⟩
  | .hbm, ⟨46, _⟩ => ⟨S327680, .i32⟩
  | .hbm, ⟨47, _⟩ => ⟨S327680x1, .i32⟩
  | .hbm, ⟨48, _⟩ => ⟨S10112x128, .f32⟩
  | .hbm, ⟨49, _⟩ => ⟨S20224x128, .f32⟩
  | .hbm, ⟨50, _⟩ => ⟨S10000x128, .f32⟩
  | .hbm, ⟨51, _⟩ => ⟨S10000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S1x128, .f32⟩
  | .hbm, ⟨56, _⟩ => ⟨S10000x128, .f32⟩
  | .local .tc .vmem, ⟨0, _⟩ => ⟨S1000x128, .f32⟩
  | .local .tc .vmem, ⟨1, _⟩ => ⟨S1000x128, .f32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S1000x128, .f32⟩
  | .local .tc .vmem, ⟨8, _⟩ => ⟨S1000x128, .f32⟩
  | .local .tc .vmem, ⟨9, _⟩ => ⟨S1000x128, .f32⟩
  | .local .tc .vmem, ⟨10, _⟩ => ⟨S1000x128, .f32⟩
  | .local .tc .vmem, ⟨11, _⟩ => ⟨S1000x128, .f32⟩
  | .local .tc .vmem, ⟨12, _⟩ => ⟨S128x128, .f32⟩
  | .local .tc .vmem, ⟨13, _⟩ => ⟨S1x128, .f32⟩
  | .local .tc .vmem, ⟨14, _⟩ => ⟨S128x128, .f32⟩
  | .local .tc .vmem, ⟨15, _⟩ => ⟨S1x128, .f32⟩
  | .local .tc .vmem, ⟨16, _⟩ => ⟨S1000x128, .f32⟩
  | .local .tc .vmem, ⟨17, _⟩ => ⟨S1000x128, .f32⟩
  | .local .scVector .vmem, ⟨0, _⟩ => ⟨S16x128, .i32⟩
  | .local .scVector .vmem, ⟨1, _⟩ => ⟨S128x128, .f32⟩
  | .local .scVector .vmem, ⟨2, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v2_scv : Ref sig .scVector := ⟨.hbm, 10, rfl⟩
abbrev main_v13_scv : Ref sig .scVector := ⟨.hbm, 23, rfl⟩
abbrev main_v16_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg7_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32_0 : BitVec 32 := 0#32
  let c10_i32 : BitVec 32 := 10#32
  let v2 : BitVec 32 := Scalar.addi c0_i32_0 c10_i32
  let c1_i32 : BitVec 32 := 1#32
  ⟨c0_i32_0, v2, c1_i32⟩
def k1_off1 (i : grid1.Coords) (k1_t1 : Fin k1_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10_i32_2 : BitVec 32 := 10#32
  let v3 : BitVec 32 := Scalar.muli v1 c10_i32_2
  let c0_i32_0 : BitVec 32 := 0#32
  let c1_i32 : BitVec 32 := 1#32
  let arg10 : BitVec 32 := Scf.iv c0_i32_0 c1_i32 k1_t1
  let v4 : BitVec 32 := Scalar.addi v3 arg10
  let c0_i32_245_r0 : BitVec 32 := 0#32
  let c0_i32_246_r0 : BitVec 32 := 0#32
  ![v4.toNat, 0, 0]
def k1_off2 (i : grid1.Coords) (k1_t1 : Fin k1_t1_loop.trips) (c0_i32_17 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10_i32_15 : BitVec 32 := 10#32
  let v14 : BitVec 32 := Scalar.muli v1 c10_i32_15
  let c0_i32_0 : BitVec 32 := 0#32
  let c1_i32 : BitVec 32 := 1#32
  let arg10 : BitVec 32 := Scf.iv c0_i32_0 c1_i32 k1_t1
  let v15 : BitVec 32 := Scalar.addi v14 arg10
  let c16_i32_16 : BitVec 32 := 16#32
  let v16 : BitVec 32 := Scalar.muli v15 c16_i32_16
  let v17 : BitVec 32 := Scalar.addi v16 c0_i32_17
  let c128_i32 : BitVec 32 := 128#32
  let v18 : BitVec 32 := Scalar.muli v17 c128_i32
  let c0_i32_18 : BitVec 32 := 0#32
  ![v18.toNat, 0]
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x128 : Shape := ⟨2, ![1, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 98
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S1, .i32⟩
  | .hbm, ⟨24, _⟩ => ⟨S_, .i32⟩
  | .hbm, ⟨25, _⟩ => ⟨S320000x1, .i32⟩
  | .hbm, ⟨26, _⟩ => ⟨S320000x1, .i1⟩
  | .hbm, ⟨27, _⟩ => ⟨S1x1, .i32⟩
  | .hbm, ⟨28, _⟩ => ⟨S320000x1, .i32⟩
  | .hbm, ⟨29, _⟩ => ⟨S320000x1, .i1⟩
  | .hbm, ⟨30, _⟩ => ⟨S320000x1, .i1⟩
  | .hbm, ⟨31, _⟩ => ⟨S_, .i1⟩
  | .hbm, ⟨32, _⟩ => ⟨S320000, .i1⟩
  | .hbm, ⟨33, _⟩ => ⟨S320000x128, .f32⟩
  | .hbm, ⟨34, _⟩ => ⟨S320000x128, .i1⟩
  | .hbm, ⟨35, _⟩ => ⟨S_, .f32⟩
  | .hbm, ⟨36, _⟩ => ⟨S320000x128, .f32⟩
  | .hbm, ⟨37, _⟩ => ⟨S320000x128, .f32⟩
  | .hbm, ⟨38, _⟩ => ⟨S_, .f32⟩
  | .hbm, ⟨39, _⟩ => ⟨S10000x128, .f32⟩
  | .hbm, ⟨40, _⟩ => ⟨S_, .i32⟩
  | .hbm, ⟨41, _⟩ => ⟨S_, .i32⟩
  | .hbm, ⟨42, _⟩ => ⟨S320000, .i32⟩
  | .hbm, ⟨43, _⟩ => ⟨S320000x128, .f32⟩
  | .hbm, ⟨44, _⟩ => ⟨S_, .i32⟩
  | .hbm, ⟨45, _⟩ => ⟨S_, .i32⟩
  | .hbm, ⟨46, _⟩ => ⟨S10000x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x128, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x128, .f32⟩
  | .hbm, ⟨74, _⟩ => ⟨S1x128, .f32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S10000x128, .f32⟩
  | .hbm, ⟨90, _⟩ => ⟨S_, .i32⟩
  | .hbm, ⟨91, _⟩ => ⟨S_, .i32⟩
  | .hbm, ⟨92, _⟩ => ⟨S128x128, .f32⟩
  | .hbm, ⟨93, _⟩ => ⟨S10000x128, .f32⟩
  | .hbm, ⟨94, _⟩ => ⟨S1x128, .f32⟩
  | .hbm, ⟨95, _⟩ => ⟨S10000x128, .f32⟩
  | .hbm, ⟨96, _⟩ => ⟨S10000x128, .f32⟩
  | .hbm, ⟨97, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_c : Ref sig .tc := ⟨.hbm, 40, rfl⟩
abbrev main_c_0 : Ref sig .tc := ⟨.hbm, 41, rfl⟩
abbrev main_v11_0 : Ref sig .tc := ⟨.hbm, 42, rfl⟩
abbrev main_v11_1 : Ref sig .tc := ⟨.hbm, 43, rfl⟩
abbrev main_v11_2 : Ref sig .tc := ⟨.hbm, 44, rfl⟩
abbrev main_v11_3 : Ref sig .tc := ⟨.hbm, 45, rfl⟩
abbrev main_v11_4 : Ref sig .tc := ⟨.hbm, 46, rfl⟩
abbrev main_while0c_c_5 : Ref sig .tc := ⟨.hbm, 47, rfl⟩
abbrev main_while0c_v18 : Ref sig .tc := ⟨.hbm, 48, rfl⟩
abbrev main_while0b_c_5 : Ref sig .tc := ⟨.hbm, 49, rfl⟩
abbrev main_while0b_v18 : Ref sig .tc := ⟨.hbm, 50, rfl⟩
abbrev main_while0b_c_6 : Ref sig .tc := ⟨.hbm, 51, rfl⟩
abbrev main_while0b_v19 : Ref sig .tc := ⟨.hbm, 52, rfl⟩
abbrev main_while0b_v20 : Ref sig .tc := ⟨.hbm, 53, rfl⟩
abbrev main_while0b_c_7 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_c_8 : Ref sig .tc := ⟨.hbm, 59, rfl⟩
abbrev main_while0b_v25 : Ref sig .tc := ⟨.hbm, 60, rfl⟩
abbrev main_while0b_c_9 : Ref sig .tc := ⟨.hbm, 61, rfl⟩
abbrev main_while0b_v26 : Ref sig .tc := ⟨.hbm, 62, rfl⟩
abbrev main_while0b_v27 : Ref sig .tc := ⟨.hbm, 63, rfl⟩
abbrev main_while0b_c_10 : Ref sig .tc := ⟨.hbm, 64, rfl⟩
abbrev main_while0b_v28 : Ref sig .tc := ⟨.hbm, 65, rfl⟩
abbrev main_while0b_c_11 : Ref sig .tc := ⟨.hbm, 66, rfl⟩
abbrev main_while0b_v29 : Ref sig .tc := ⟨.hbm, 67, rfl⟩
abbrev main_while0b_v30 : Ref sig .tc := ⟨.hbm, 68, rfl⟩
abbrev main_while0b_c_12 : Ref sig .tc := ⟨.hbm, 69, rfl⟩
abbrev main_while0b_v31 : Ref sig .tc := ⟨.hbm, 70, rfl⟩
abbrev main_while0b_v32 : Ref sig .tc := ⟨.hbm, 71, rfl⟩
abbrev main_while0b_c_13 : Ref sig .tc := ⟨.hbm, 72, rfl⟩
abbrev main_while0b_v33 : Ref sig .tc := ⟨.hbm, 73, rfl⟩
abbrev main_while0b_v34 : Ref sig .tc := ⟨.hbm, 74, rfl⟩
abbrev main_while0b_c_14 : Ref sig .tc := ⟨.hbm, 75, rfl⟩
abbrev main_while0b_v35 : Ref sig .tc := ⟨.hbm, 76, rfl⟩
abbrev main_while0b_v36 : Ref sig .tc := ⟨.hbm, 77, rfl⟩
abbrev main_while0b_c_15 : Ref sig .tc := ⟨.hbm, 78, rfl⟩
abbrev main_while0b_v37 : Ref sig .tc := ⟨.hbm, 79, rfl⟩
abbrev main_while0b_v38 : Ref sig .tc := ⟨.hbm, 80, rfl⟩
abbrev main_while0b_v39 : Ref sig .tc := ⟨.hbm, 81, rfl⟩
abbrev main_while0b_v40 : Ref sig .tc := ⟨.hbm, 82, rfl⟩
abbrev main_while0b_c_16 : Ref sig .tc := ⟨.hbm, 83, rfl⟩
abbrev main_while0b_v41 : Ref sig .tc := ⟨.hbm, 84, rfl⟩
abbrev main_while0b_c_17 : Ref sig .tc := ⟨.hbm, 85, rfl⟩
abbrev main_while0b_v42 : Ref sig .tc := ⟨.hbm, 86, rfl⟩
abbrev main_while0b_v43 : Ref sig .tc := ⟨.hbm, 87, rfl⟩
abbrev main_while0b_c_18 : Ref sig .tc := ⟨.hbm, 88, rfl⟩
abbrev main_while0b_v44 : Ref sig .tc := ⟨.hbm, 89, rfl⟩
abbrev main_while0b_c_19 : Ref sig .tc := ⟨.hbm, 90, rfl⟩
abbrev main_while0b_v45 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩

abbrev nD : Nat := 1
abbrev τ : Topo := Topo.v7x

variable {F : FTy → Type} [FloatOps F]

abbrev main_while0_count : Scf.Loop 32 := ⟨0#32, 320000#32, 1#32⟩
-- ==== Combine.lean ====
abbrev S10000x128 : Shape := ⟨2, ![10000, 128]⟩
abbrev S20224x128 : Shape := ⟨2, ![20224, 128]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩

abbrev nBuf : Space → Nat
  | .hbm => 13
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S20224x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S1x128, .f32⟩
  | .hbm, ⟨12, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S10000x128 : Shape := ⟨2, ![10000, 128]⟩
abbrev S20224x128 : Shape := ⟨2, ![20224, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S20224x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .i1⟩
  | .hbm, ⟨20, _⟩ => ⟨S_, .f32⟩
  | .hbm, ⟨21, _⟩ => ⟨S10000x128, .f32⟩
  | .hbm, ⟨22, _⟩ => ⟨S10000x128, .i1⟩
  | .hbm, ⟨23, _⟩ => ⟨S_, .f32⟩
  | .hbm, ⟨24, _⟩ => ⟨S_, .i1⟩
  | .hbm, ⟨25, _⟩ => ⟨S10000x128, .i1⟩
  | .hbm, ⟨26, _⟩ => ⟨S10000x128, .i1⟩
  | .hbm, ⟨27, _⟩ => ⟨S10000x128, .i1⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S128x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩

abbrev nD : Nat := 1
abbrev τ : Topo := Topo.v7x

variable {F : FTy → Type} [FloatOps F]
-- ==== Proof.CombineKernel.lean ====
/-
  What the combining TensorCore call computes: row `r`, column `l` of its result as one expression of the call's
  seven operands, read over the extended reals.
-/
module

public import proofs.«01_k».proof.Proof.Gen.CombineIdeal.Value
public import Idealize.ShloMosaic.Lib.Pointwise
public import Idealize.ShloMosaic.Lib.ValueIdx

@[expose] public section

noncomputable section

open Idealize.ShloMosaic Idealize.ShloMosaic.TcCoe Idealize.SL.Sem
open Idealize.ShloMosaic.Pipeline (Dat)
open scoped BigOperators

namespace Cert.CombineIdeal.Sums

open Cert.CombineIdeal Cert.CombineIdeal.Gen
open Idealize.ShloMosaic.Pointwise

/-- The factor that a count of negative elements contributes: `1 - 2 p`, where `p` is the count's residue modulo two. -/
def sign (s : EReal) : EReal :=
  Ideal.ofBits .f32 0x3F800000#32 - Ideal.ofBits .f32 0x40000000#32 *
    (s - Ideal.ofBits .f32 0x40000000#32 * Ideal.liftRound Int.floor (s * Ideal.ofBits .f32 0x3F000000#32))

/-- One row of the result: the two biased products of a row with a weight matrix, multiplied. -/
def cell (x sl ss : Fin 128 → EReal) (w1 w2 : Fin 128 → EReal) (b1 b2 : EReal) : EReal :=
  (∑ k, x k * w1 k + b1) * (∑ k, sign (ss k) * Ideal.exp (sl k) * w2 k + b2)

/-- The body's stored value at row `r`, column `l`. -/
theorem pay_apply (v0 : Vec Ideal S1000x128 .f32) (v1 : Vec Ideal S128x128 .f32) (v4 : Vec Ideal S1x128 .f32)
    (v8 v20 : Vec Ideal S1000x128 .f32) (v24 : Vec Ideal S128x128 .f32) (v27 : Vec Ideal S1x128 .f32)
    (r : Fin 1000) (l : Fin 128) :
    k0_pay1 v0 v1 v4 v8 v20 v24 v27 (ix2 r l) =
      cell (fun k => v0 (ix2 r k)) (fun k => v20 (ix2 r k)) (fun k => v8 (ix2 r k))
        (fun k => v1 (ix2 k l)) (fun k => v24 (ix2 k l)) (v4 (ix2 0 l)) (v27 (ix2 0 l)) := by
  pointwise [k0_pay1, cell, sign]
  done

variable (m : (ℓ : Loc nD τ sig) → Buf (Elt Ideal) ℓ)

/-- The result array as one function of the operands as the call finds them. -/
def result (c : Dev nD) : Buf (Elt Ideal) ((c : Thread nD τ).loc main_v6) := fun j : S10000x128.Idx =>
  cell (fun k => (V m c main_arg0 : S10000x128.Idx → EReal) (ix2 (j 0) k))
    (fun k => (V m c main_v0 : S10000x128.Idx → EReal) (ix2 (j 0) k))
    (fun k => (V m c main_v1 : S10000x128.Idx → EReal) (ix2 (j 0) k))
    (fun k => (V m c main_v2 : S128x128.Idx → EReal) (ix2 k (j 1)))
    (fun k => (V m c main_v3 : S128x128.Idx → EReal) (ix2 k (j 1)))
    ((V m c main_v4 : S1x128.Idx → EReal) (ix2 0 (j 1))) ((V m c main_v5 : S1x128.Idx → EReal) (ix2 0 (j 1)))

theorem hz : (![0, 0] : Fin 2 → Nat) = fun _ => 0 := funext fun a => by fin_cases a <;> rfl

/-- The row blocks move with the grid point, the weights and biases do not. -/
theorem row_index (t : Fin cfg0.N) :
    win0_0.index t 0 = t.val ∧ win0_0.index t 1 = 0 ∧ win0_1.index t 0 = t.val ∧ win0_1.index t 1 = 0
    ∧ win0_2.index t 0 = t.val ∧ win0_2.index t 1 = 0 ∧ win0_7.index t 0 = t.val ∧ win0_7.index t 1 = 0 := by
  revert t
  decide +kernel

theorem fixed_index (t : Fin cfg0.N) :
    win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0 := by
  revert t
  decide +kernel

/-- A row block's element sits in its array at the row the block starts at. -/
theorem read_rows (f : S10000x128.Idx → EReal) (e : S10000x128.Idx) (n : Nat) (r : Fin 1000) (k : Fin 128) (R : Fin 10000)
    (hR : R.val = 1000 * n + r.val) (h0 : (e 0).val = n * 1000 + 1 * r.val) (h1 : (e 1).val = 0 * 128 + 1 * k.val) :
    f e = f (ix2 R k) :=
  congrArg f (funext fun a => Fin.ext (by
    match a with
    | ⟨0, _⟩ => show (e 0).val = R.val; omega
    | ⟨1, _⟩ => show (e 1).val = k.val; omega))

/-- An array that is its own one block is read where it is. -/
theorem read_fixed {n : Nat} (f : (⟨2, ![n, 128]⟩ : Shape).Idx → EReal) (e : (⟨2, ![n, 128]⟩ : Shape).Idx) (k : Fin n) (l : Fin 128)
    (h0 : (e 0).val = 0 * n + 1 * k.val) (h1 : (e 1).val = 0 * 128 + 1 * l.val) : f e = f (ix2 k l) :=
  congrArg f (funext fun a => Fin.ext (by
    match a with
    | ⟨0, _⟩ => show (e 0).val = k.val; omega
    | ⟨1, _⟩ => show (e 1).val = l.val; omega))

/-- The blocks of the three row operands at point `t`: the rows from `1000 t` on. -/
theorem rows_apply (c : Dev nD) (t : Fin cfg0.N) (r : Fin 1000) (k : Fin 128) (R : Fin 10000) (hR : R.val = 1000 * t.val + r.val) :
    (iblk m c 0 t : S1000x128.Idx → EReal) (ix2 r k) = (V m c main_arg0 : S10000x128.Idx → EReal) (ix2 R k)
    ∧ (iblk m c 1 t : S1000x128.Idx → EReal) (ix2 r k) = (V m c main_v0 : S10000x128.Idx → EReal) (ix2 R k)
    ∧ (iblk m c 2 t : S1000x128.Idx → EReal) (ix2 r k) = (V m c main_v1 : S10000x128.Idx → EReal) (ix2 R k) := by
  obtain ⟨h00, h01, h10, h11, h20, h21, -, -⟩ := row_index t
  exact ⟨read_rows (V m c main_arg0) _ _ r k R hR (congrArg (· * 1000 + 1 * r.val) h00) (congrArg (· * 128 + 1 * k.val) h01),
    read_rows (V m c main_v0) _ _ r k R hR (congrArg (· * 1000 + 1 * r.val) h10) (congrArg (· * 128 + 1 * k.val) h11),
    read_rows (V m c main_v1) _ _ r k R hR (congrArg (· * 1000 + 1 * r.val) h20) (congrArg (· * 128 + 1 * k.val) h21)⟩

/-- The weights and the biases are whole at every point. -/
theorem fixed_apply (c : Dev nD) (t : Fin cfg0.N) (k l : Fin 128) :
    (iblk m c 3 t : S128x128.Idx → EReal) (ix2 k l) = (V m c main_v2 : S128x128.Idx → EReal) (ix2 k l)
    ∧ (iblk m c 5 t : S128x128.Idx → EReal) (ix2 k l) = (V m c main_v3 : S128x128.Idx → EReal) (ix2 k l)
    ∧ (iblk m c 4 t : S1x128.Idx → EReal) (ix2 0 l) = (V m c main_v4 : S1x128.Idx → EReal) (ix2 0 l)
    ∧ (iblk m c 6 t : S1x128.Idx → EReal) (ix2 0 l) = (V m c main_v5 : S1x128.Idx → EReal) (ix2 0 l) := by
  obtain ⟨h30, h31, h40, h41, h50, h51, h60, h61⟩ := fixed_index t
  exact ⟨read_fixed (V m c main_v2) _ k l (congrArg (· * 128 + 1 * k.val) h30) (congrArg (· * 128 + 1 * l.val) h31),
    read_fixed (V m c main_v3) _ k l (congrArg (· * 128 + 1 * k.val) h50) (congrArg (· * 128 + 1 * l.val) h51),
    read_fixed (V m c main_v4) _ 0 l (congrArg (· * 1 + 1 * 0) h40) (congrArg (· * 128 + 1 * l.val) h41),
    read_fixed (V m c main_v5) _ 0 l (congrArg (· * 1 + 1 * 0) h60) (congrArg (· * 128 + 1 * l.val) h61)⟩

theorem point_lt (t : Fin cfg0.N) : t.val < 10 := t.isLt

/-- What grid point `t` writes back is its block of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1000x128) hz, View.ld_unit_zero (S := S128x128) hz, View.ld_unit_zero (S := S1x128) hz]
  have hi := row_index t
  have ht := point_lt t
  refine funext fun j => ?_
  rw [View.read_apply]
  have h0 : (j 0 : Nat) < 1000 := (j 0).isLt
  have h1 : (j 1 : Nat) < 128 := (j 1).isLt
  let R : Fin 10000 := ⟨1000 * t.val + j 0, by omega⟩
  let r : Fin 1000 := ⟨j 0, h0⟩
  let l : Fin 128 := ⟨j 1, h1⟩
  have hj : ((cfg0.win 7).blk t).view.emb j = (ix2 R l : S10000x128.Idx) := funext fun a => Fin.ext (by
    match a with
    | ⟨0, _⟩ => show win0_7.index t 0 * 1000 + 1 * (j 0).val = 1000 * t.val + (j 0).val; omega
    | ⟨1, _⟩ => show win0_7.index t 1 * 128 + 1 * (j 1).val = (j 1).val; omega)
  rw [hj]
  have hj' : j = (ix2 r l : S1000x128.Idx) := ValueIdx.eq_ix2 j
  show k0_pay1 (F := Ideal) _ _ _ _ _ _ _ j = result m c (ix2 R l)
  rw [hj']
  refine (pay_apply _ _ _ _ _ _ _ r l).trans ?_
  show _ = cell _ _ _ _ _ _ _
  have hr := fun k => rows_apply m c t r k R rfl
  have hf := fun k => fixed_apply m c t k l
  simp only [fun k => (hr k).1, fun k => (hr k).2.1, fun k => (hr k).2.2, fun k => (hf k).1, fun k => (hf k).2.1, (hf 0).2.2.1, (hf 0).2.2.2]
  rfl

/-- Every row lies in the block of the point that is its thousands. -/
theorem cover (i : S10000x128.Idx) : ∃ t : Fin cfg0.N, (cfg0.win 7).flush t = true ∧ i ∈ ((cfg0.win 7).blk t).view.set := by
  have h0 : (i 0 : Nat) < 10000 := (i 0).isLt
  have h1 : (i 1 : Nat) < 128 := (i 1).isLt
  have ht : (i 0 : Nat) / 1000 < cfg0.N := by show _ < 10; omega
  refine ⟨⟨(i 0 : Nat) / 1000, ht⟩, flush0_7 _, ?_⟩
  obtain ⟨-, -, -, -, -, -, e0, e1⟩ := row_index ⟨(i 0 : Nat) / 1000, ht⟩
  show i ∈ ((View.whole main_v6).slice (win0_7.rect ⟨(i 0 : Nat) / 1000, ht⟩)).set
  rw [View.set_slice_whole, Rect.mem_set_unit]
  intro a
  match a with
  | ⟨0, _⟩ =>
    show win0_7.index _ 0 * 1000 ≤ (i 0 : Nat) ∧ (i 0 : Nat) < win0_7.index _ 0 * 1000 + 1000
    rw [e0]; dsimp only; omega
  | ⟨1, _⟩ =>
    show win0_7.index _ 1 * 128 ≤ (i 1 : Nat) ∧ (i 1 : Nat) < win0_7.index _ 1 * 128 + 128
    rw [e1]; omega

/-- So the result array ends as `result`. -/
theorem final (c : Dev nD) : (dats m 0 c).arrAt 7 cfg0.N = result m c :=
  (dats m 0 c).arrAt_eq_of_cover 7 (result m c) (fun t _ => flushed_eq m c t) cover

end Cert.CombineIdeal.Sums
-- ==== Proof.Combine.lean ====
/-
  The combining call against the formula it stands for: over the extended reals its result is
  `(x W1ᵀ + b1) * (aggr W2ᵀ + b2)`, where `aggr` is rebuilt from the sums of logarithms and the counts of negative
  elements, the sign by the count's remainder modulo two.
-/
module

public import proofs.«01_k».proof.Defs
public import proofs.«01_k».proof.Proof.CombineKernel
public import proofs.«01_k».proof.Proof.Gen.CombineReferenceIdeal.Run
public import Idealize.ShloMosaic.Lib.StableHlo.Run
public import Idealize.ShloMosaic.Lib.Quiescent

@[expose] public section

noncomputable section

open Idealize.ShloMosaic Idealize.ShloMosaic.TcCoe Idealize.SL.Sem
open scoped BigOperators

namespace Cert.CombineIdeal.Sums

open Cert.CombineIdeal Cert.CombineIdeal.Gen
open Idealize.ShloMosaic.Pointwise

variable (m : (ℓ : Loc nD τ sig) → Buf (Elt Ideal) ℓ)

/-- What the host hands the call: the two halves of the sums, the transposed weights, the biases as rows. -/
theorem operands (c : Dev nD) :
    (V m c main_v0 = extractStridedSlice S10000x128 ![0, 0] (m ((c : Thread nD τ).loc main_arg1)) slices_S20224x128_S10000x128_0_0)
    ∧ (V m c main_v1 = extractStridedSlice S10000x128 ![10112, 0] (m ((c : Thread nD τ).loc main_arg1)) slices_S20224x128_S10000x128_10112_0)
    ∧ (V m c main_v2 = transpose S128x128 [1, 0] (m ((c : Thread nD τ).loc main_arg2)) transposes_S128x128_S128x128_1_0)
    ∧ (V m c main_v3 = transpose S128x128 [1, 0] (m ((c : Thread nD τ).loc main_arg4)) transposes_S128x128_S128x128_1_0)
    ∧ (V m c main_v4 = shapeCast S1x128 (m ((c : Thread nD τ).loc main_arg3)) shapeCasts_S128_S1x128)
    ∧ (V m c main_v5 = shapeCast S1x128 (m ((c : Thread nD τ).loc main_arg5)) shapeCasts_S128_S1x128) := by
  refine ⟨?_, ?_, ?_, ?_, ?_, ?_⟩ <;> (unfold V; simp only [hostOps0]; after_results_simp)
  all_goals rfl

/-- The result by the arguments: `result` with the host's slices, transposes and reshapes read. -/
theorem result_apply (c : Dev nD) (r : Fin 10000) (l : Fin 128) (x : FVec Ideal S10000x128 .f32) (sums : FVec Ideal S20224x128 .f32)
    (W1 W2 : FVec Ideal S128x128 .f32) (b1 b2 : FVec Ideal S128 .f32)
    (hx : m ((c : Thread nD τ).loc main_arg0) = x) (hs : m ((c : Thread nD τ).loc main_arg1) = sums)
    (hw1 : m ((c : Thread nD τ).loc main_arg2) = W1) (hb1 : m ((c : Thread nD τ).loc main_arg3) = b1)
    (hw2 : m ((c : Thread nD τ).loc main_arg4) = W2) (hb2 : m ((c : Thread nD τ).loc main_arg5) = b2) :
    (result m c : S10000x128.Idx → EReal) (ix2 r l) =
      cell (fun k => x (ix2 r k)) (fun k => sums (ix2 ⟨r, by omega⟩ k)) (fun k => sums (ix2 ⟨10112 + r, by omega⟩ k))
        (fun k => W1 (ix2 l k)) (fun k => W2 (ix2 l k)) (b1 (ix1 l)) (b2 (ix1 l)) := by
  obtain ⟨h0, h1, h2, h3, h4, h5⟩ := operands m c
  subst hx hs hw1 hb1 hw2 hb2
  unfold result
  rw [h0, h1, h2, h3, h4, h5, V_main_arg0]
  pointwise

end Cert.CombineIdeal.Sums

namespace Cert.CombineReferenceIdeal.Formula

open Cert.CombineReferenceIdeal Cert.CombineReferenceIdeal.Gen
open Idealize.ShloMosaic.Pointwise

/-- The f32 pattern `0x40000000` is the extended real two. -/
theorem two_eq : Ideal.ofBits .f32 0x40000000#32 = ((2 : ℝ) : EReal) := by
  simp [Ideal.ofBits, Ideal.ieee, -EReal.coe_mul]; norm_num

/-- The f32 pattern `0x3F000000` is the extended real one half. -/
theorem half_eq : Ideal.ofBits .f32 0x3F000000#32 = ((1 / 2 : ℝ) : EReal) := by
  simp [Ideal.ofBits, Ideal.ieee, -EReal.coe_mul]; norm_num

/-- The floored remainder modulo two from the truncated one: where the truncated remainder is negative, two is added. -/
def floored (s : EReal) : EReal :=
  if Ideal.remf s (2 : ℝ) < 0 then Ideal.remf s (2 : ℝ) + (2 : ℝ) else Ideal.remf s (2 : ℝ)

/-- Of a real number the floored remainder is the number less twice the floor of its half. -/
theorem floored_coe (r : ℝ) : floored r = ((r - 2 * ⌊r / 2⌋ : ℝ) : EReal) := by
  have h1 := Int.floor_le (r / 2)
  have h2 := Int.le_ceil (r / 2)
  unfold floored
  rw [Ideal.remf_coe, if_neg two_ne_zero, Ideal.truncInt]
  split
  · rw [if_neg (by rw [not_lt]; exact_mod_cast (by linarith : (0 : ℝ) ≤ r - 2 * (⌊r / 2⌋ : ℝ)))]
  · split
    · rename_i h
      have h : r - 2 * (⌈r / 2⌉ : ℝ) < 0 := by exact_mod_cast h
      have e : (⌈r / 2⌉ : ℤ) = ⌊r / 2⌋ + 1 := by
        apply Int.ceil_eq_iff.mpr
        have : (⌊r / 2⌋ : ℤ) ≠ ⌈r / 2⌉ := fun e => by rw [e] at h1; linarith
        have hle : (⌊r / 2⌋ : ℤ) + 1 ≤ ⌈r / 2⌉ := by
          have : (⌊r / 2⌋ : ℤ) ≤ ⌈r / 2⌉ := Int.floor_le_ceil _
          omega
        push_cast
        refine ⟨?_, (Int.lt_floor_add_one _).le⟩
        rcases h1.lt_or_eq with hlt | heq
        · linarith
        · exact absurd (by rw [← heq, Int.ceil_intCast, Int.floor_intCast]) this
      rw [e]
      rw [← EReal.coe_add]
      congr 1
      push_cast
      ring
    · rename_i h
      have h : ¬ (r - 2 * (⌈r / 2⌉ : ℝ) < 0) := fun hh => h (by exact_mod_cast hh)
      have e : r / 2 = (⌈r / 2⌉ : ℝ) := by linarith
      rw [show (⌊r / 2⌋ : ℤ) = ⌈r / 2⌉ by rw [e]; simp]

/-- The floored remainder by the kernel's formula; at the two infinities both are `⊥`. -/
theorem floored_eq (s : EReal) :
    floored s = s - ((2 : ℝ) : EReal) * Ideal.liftRound Int.floor (s * ((1 / 2 : ℝ) : EReal)) := by
  have hbot : ((2 : ℝ) : EReal) * ⊥ = ⊥ := EReal.coe_mul_bot_of_pos (by norm_num)
  have htop : ((2 : ℝ) : EReal) * ⊤ = ⊤ := EReal.coe_mul_top_of_pos (by norm_num)
  induction s with
  | bot => simp [floored, EReal.bot_mul_coe_of_pos (show (0 : ℝ) < 1 / 2 by norm_num), hbot]
  | top =>
    rw [EReal.top_mul_coe_of_pos (by norm_num), Ideal.liftRound_top, htop]
    simp [floored]
  | coe r =>
    rw [floored_coe, ← EReal.coe_mul, Ideal.liftRound_coe, ← EReal.coe_mul, ← EReal.coe_sub, show r * (1 / 2) = r / 2 by ring]

/-- The remainder as the reference selects it. -/
theorem select_eq (s : EReal) :
    Scalar.select (IntOp.andi (IntOp.cmpi .ne (BitVec.ofBool (decide (Ideal.remf s (2 : ℝ) < 0)))
        (BitVec.ofBool (decide (((2 : ℝ) : EReal) < 0)))) (BitVec.ofBool (decide (Ideal.remf s (2 : ℝ) ≠ 0))))
      (Ideal.remf s (2 : ℝ) + (2 : ℝ)) (Ideal.remf s (2 : ℝ)) = floored s := by
  have h2 : ¬ (((2 : ℝ) : EReal) < 0) := by
    rw [not_lt]; exact_mod_cast (by norm_num : (0 : ℝ) ≤ 2)
  unfold floored Scalar.select
  by_cases h : Ideal.remf s (2 : ℝ) < 0
  · simp [h, h2, h.ne, IntOp.andi, IntOp.cmpi]
  · simp [h, h2, IntOp.andi, IntOp.cmpi]

/-- The reference's result as its run states it, over named arguments. -/
def ref (x : FVec Ideal S10000x128 .f32) (sums : FVec Ideal S20224x128 .f32)
    (W1 : FVec Ideal S128x128 .f32) (b1 : FVec Ideal S128 .f32) (W2 : FVec Ideal S128x128 .f32) (b2 : FVec Ideal S128 .f32) : FVec Ideal S10000x128 .f32 :=
  mulf (addf (Host.dotGeneral dot_S10000x128_S128x128_S10000x128_1_0_0_1_n_n none x (transpose S128x128 [1, 0] W1 transposes_S128x128_S128x128_1_0)) (broadcastInDim S10000x128 ![0, 1] bcast_S1x128_S10000x128_0_1 (broadcastInDim S1x128 ![1] bcast_S128_S1x128_1 b1))) (addf (Host.dotGeneral dot_S10000x128_S128x128_S10000x128_1_0_0_1_n_n none (mulf (subf (broadcastInDim S10000x128 ![] bcast_S_S10000x128 (constant S_ .f32 0x3F800000#32)) (mulf (broadcastInDim S10000x128 ![] bcast_S_S10000x128 (constant S_ .f32 0x40000000#32)) (select (andi (cmpi .ne (cmpf .olt (Host.remf (extractStridedSlice S10000x128 ![10112, 0] sums slices_S20224x128_S10000x128_10112_0) (broadcastInDim S10000x128 ![] bcast_S_S10000x128 (constant S_ .f32 0x40000000#32))) (broadcastInDim S10000x128 ![] bcast_S_S10000x128 (constant S_ .f32 0x00000000#32))) (broadcastInDim S10000x128 ![] bcast_S_S10000x128 (cmpf (F := Ideal) .olt (constant S_ .f32 0x40000000#32) (constant S_ .f32 0x00000000#32)))) (cmpf .une (Host.remf (extractStridedSlice S10000x128 ![10112, 0] sums slices_S20224x128_S10000x128_10112_0) (broadcastInDim S10000x128 ![] bcast_S_S10000x128 (constant S_ .f32 0x40000000#32))) (broadcastInDim S10000x128 ![] bcast_S_S10000x128 (constant S_ .f32 0x00000000#32)))) (addf (Host.remf (extractStridedSlice S10000x128 ![10112, 0] sums slices_S20224x128_S10000x128_10112_0) (broadcastInDim S10000x128 ![] bcast_S_S10000x128 (constant S_ .f32 0x40000000#32))) (broadcastInDim S10000x128 ![] bcast_S_S10000x128 (constant S_ .f32 0x40000000#32))) (Host.remf (extractStridedSlice S10000x128 ![10112, 0] sums slices_S20224x128_S10000x128_10112_0) (broadcastInDim S10000x128 ![] bcast_S_S10000x128 (constant S_ .f32 0x40000000#32)))))) (Host.exp (extractStridedSlice S10000x128 ![0, 0] sums slices_S20224x128_S10000x128_0_0))) (transpose S128x128 [1, 0] W2 transposes_S128x128_S128x128_1_0)) (broadcastInDim S10000x128 ![0, 1] bcast_S1x128_S10000x128_0_1 (broadcastInDim S1x128 ![1] bcast_S128_S1x128_1 b2)))

theorem ref_apply (x : FVec Ideal S10000x128 .f32) (sums : FVec Ideal S20224x128 .f32)
    (W1 : FVec Ideal S128x128 .f32) (b1 : FVec Ideal S128 .f32) (W2 : FVec Ideal S128x128 .f32) (b2 : FVec Ideal S128 .f32)
    (r : Fin 10000) (l : Fin 128) :
    ref x sums W1 b1 W2 b2 (ix2 r l) =
      Cert.CombineIdeal.Sums.cell (fun k => x (ix2 r k)) (fun k => sums (ix2 ⟨r, by omega⟩ k)) (fun k => sums (ix2 ⟨10112 + r, by omega⟩ k))
        (fun k => W1 (ix2 l k)) (fun k => W2 (ix2 l k)) (b1 (ix1 l)) (b2 (ix1 l)) := by
  pointwise [ref]
  simp only [two_eq, select_eq, floored_eq, CombineIdeal.Sums.cell, CombineIdeal.Sums.sign, half_eq, Ideal.ofBits_one_f32]

/-- The reference's result in the words of the formula, whole: the kernel's. -/
theorem ref_eq (m : (ℓ : Loc Cert.CombineIdeal.nD Cert.CombineIdeal.τ Cert.CombineIdeal.sig) → Buf (Elt Ideal) ℓ) (c : Dev Cert.CombineIdeal.nD) :
    ref (m ((c.tc : Thread _ _).loc Cert.CombineIdeal.main_arg0)) (m ((c.tc : Thread _ _).loc Cert.CombineIdeal.main_arg1))
      (m ((c.tc : Thread _ _).loc Cert.CombineIdeal.main_arg2)) (m ((c.tc : Thread _ _).loc Cert.CombineIdeal.main_arg3))
      (m ((c.tc : Thread _ _).loc Cert.CombineIdeal.main_arg4)) (m ((c.tc : Thread _ _).loc Cert.CombineIdeal.main_arg5))
      = Cert.CombineIdeal.Sums.result m c := by
  funext i
  obtain ⟨r, l, rfl⟩ : ∃ (r : Fin 10000) (l : Fin 128), i = ix2 r l := ⟨i 0, i 1, ValueIdx.eq_ix2 i⟩
  rw [ref_apply]
  exact (Cert.CombineIdeal.Sums.result_apply m c r l _ _ _ _ _ _ rfl rfl rfl rfl rfl rfl).symm

end Cert.CombineReferenceIdeal.Formula

namespace Cert.Combining

/-- The reference runs, its arguments unchanged, and every semaphore counter reads zero: it has none. -/
theorem frame_reference : Cert.quiescent_CombineReferenceIdeal (hCombineReferenceIdeal := Cert.CombineReferenceIdeal.Gen.facts) :=
  fun m ρ _ => (θ_run _ _ _).mono (fun r h => ⟨fun c => (h c).2, sem_eq_zero_of_no_sems rfl r.2⟩) (Cert.CombineReferenceIdeal.Value.run m ρ)

/-- The call and the reference end with equal results. -/
theorem algebraic : Cert.algebraic_CombineIdeal_CombineReferenceIdeal (hCombineIdeal := Cert.CombineIdeal.Gen.facts)
    (hCombineReferenceIdeal := Cert.CombineReferenceIdeal.Gen.facts) := by
  intro m ρ m' ρ' _ hm
  refine ⟨Cert.CombineIdeal.Sums.result m, ?_, ?_⟩
  · exact (θ_run _ _ _).mono (fun r h c => ⟨(h c).1.trans (Cert.CombineIdeal.Sums.final m c), (h c).2⟩)
      (Cert.CombineIdeal.Value.run_blocks m ρ)
  · refine (θ_run _ _ _).mono (fun r h c => ⟨?_, (h c).2⟩) (Cert.CombineReferenceIdeal.Value.run m' ρ')
    obtain ⟨h0, h1, h2, h3, h4, h5⟩ := hm c
    refine (h c).1.trans ?_
    rw [h0, h1, h2, h3, h4, h5]
    exact Cert.CombineReferenceIdeal.Formula.ref_eq m c

end Cert.Combining
-- ==== Proof.GatherTrip.lean ====
/-
  One trip of the gather's loop, in a regular form, and what its transfers move.

  A trip copies one block of sixteen rows of row numbers, and then, for each of the sixteen rows, gathers 128 rows of the
  table and copies them out to 128 consecutive rows of the result. Two row buffers take turns. `trip_eq` says that the
  printed trip is the sequence `fetch; gat; gwait; gat; put; chain`, `chain` being a recursion over the rows left.
  `rowOf`, `goal` are the contents the result should have; `fetch_val`, `gather_val` and `put_val` say what each transfer
  leaves behind.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.ShareLeaves
public import Idealize.ShloMosaic.Lib.ValueIdxCoords
public import Idealize.ShloMosaic.Lib.Tactic
public import proofs.«01_k».proof.Proof.Gen.KernelIdeal
public import proofs.«01_k».proof.Proof.Gen.KernelIdeal.Skeleton

@[expose] public section

noncomputable section

namespace Cert.Gathering

open Cert.KernelIdeal Cert.KernelIdeal.Gen

open Idealize.ShloMosaic
open Idealize.SL Idealize.SL.Sem

variable {F : FTy → Type}

/-! ## The buffers -/

/-- The table, the row numbers and the result, as a tile addresses them. -/
abbrev tV : Memref sig .scVector .hbm S20224x128 .f32 := Memref.whole main_v2_scv
abbrev xV : Memref sig .scVector .hbm S320x16x128 .i32 := Memref.whole main_v13_scv
abbrev oV : Memref sig .scVector .hbm S655360x128 .f32 := Memref.whole main_v16_scv
/-- The tile's block of row numbers. -/
abbrev iV : Memref sig .scVector .vmem S16x128 .i32 := Memref.whole cc1_scratch0
/-- The tile's two row buffers: the first for the even rows of the block, the second for the odd ones. -/
abbrev buf : Bool → Memref sig .scVector .vmem S128x128 .f32
  | false => Memref.whole cc1_scratch1
  | true => Memref.whole cc1_scratch2

theorem buf_whole (b : Bool) : (buf b).IsWhole := by cases b <;> exact Memref.isWhole_whole _

section Parts

variable (i : grid1.Coords) (t : Fin k1_t1_loop.trips)

/-- The block of row numbers of trip `t`. -/
abbrev xBlk : Memref sig .scVector .hbm S16x128 .i32 :=
  (xV.slice (Rect.unit (s := S320x16x128) (k1_off1 i t) S1x16x128.size (k1_off1_inb i t)) (fun _ => rfl)).squeeze S16x128 squeezes_S1x16x128_S16x128

/-- The whole table, as the gathers name it. -/
abbrev tAll : Memref sig .scVector .hbm S20224x128 .f32 :=
  tV.slice (Rect.unit (s := S20224x128) ![0, 0] S20224x128.size inb_S20224x128_S20224x128_0_0) (fun _ => rfl)

theorem row_inb (j : Fin 16) : ∀ a, (![j.val, 0] : Fin 2 → Nat) a + S1x128.size a ≤ S16x128.size a := by
  intro a
  match a with
  | 0 => show j.val + 1 ≤ 16; omega
  | 1 => show 0 + 128 ≤ 128; omega

/-- Row `j` of the block of row numbers. -/
abbrev iRow (j : Fin 16) : Memref sig .scVector .vmem S128 .i32 :=
  (iV.slice (Rect.unit (s := S16x128) ![j.val, 0] S1x128.size (row_inb j)) (fun _ => rfl)).squeeze S128 squeezes_S1x128_S128

/-- The 128 rows of the result that row `j` of trip `t` fills. -/
abbrev oSl (j : Fin 16) : Memref sig .scVector .hbm S128x128 .f32 :=
  oV.slice (Rect.unit (s := S655360x128) (k1_off2 i t (BitVec.ofNat 32 j.val)) S128x128.size (k1_off2_inb i t j)) (fun _ => rfl)

/-! ## The trip's operations -/

abbrev TProg : Type 1 := Prog (TpuEff nD τ sig (Elt F) Λ₀ (.scVector ((i 0).castLE hcore1) ((i 1).castLE hsub1))) PUnit

/-- The copy of the block of row numbers and its wait. -/
def fetch : TProg (F := F) i := do
  Prog.lift (.enqueueDma (xBlk i t) (.here iV) (.dma cc1_scoped0.sem) ((View.wordExact_bits rfl).reshape _ _) (Memref.isWhole_whole _).wordExact ⟨Or.inl rfl, trivial⟩)
  Prog.lift (.waitDma2 cc1_scoped0.sem (xBlk i t) iV ((View.wordExact_bits rfl).reshape _ _) (Memref.isWhole_whole _).wordExact)

/-- The gather of the rows that row `j` of the block names. -/
def gat (b : Bool) (j : Fin 16) : TProg (F := F) i :=
  SparseCore.enqueueIndirectGather rfl tAll (buf b) gathers_S20224x128_S128x128 (iRow j) rfl cc1_scratch3.sem (View.wordExact_bits rfl) rfl (Or.inl rfl)

/-- Its wait. -/
def gwait (b : Bool) : TProg (F := F) i :=
  SparseCore.waitIndirectGather cc1_scratch3.sem tAll (buf b) (View.wordExact_bits rfl) (buf_whole b).wordExact

/-- The copy of the gathered rows out. -/
def put (b : Bool) (j : Fin 16) : TProg (F := F) i :=
  Prog.lift (.enqueueDma (buf b) (.here (oSl i t j)) (.dma cc1_scratch4.sem) (buf_whole b).wordExact (View.wordExact_bits rfl) ⟨Or.inl rfl, trivial⟩)

/-- Its wait. -/
def pwait (b : Bool) (j : Fin 16) : TProg (F := F) i :=
  Prog.lift (.waitDma2 cc1_scratch4.sem (buf b) (oSl i t j) (buf_whole b).wordExact (View.wordExact_bits rfl))

/-- The row with `r` rows after it. -/
def jx (r : ℕ) : Fin 16 := ⟨15 - r, by omega⟩

/-- The rest of a trip when `r` rows come after the one being gathered into buffer `b`. -/
def chain : Bool → ℕ → TProg (F := F) i
  | b, 0 => do
    gwait i b
    pwait i t (!b) (jx 1)
    put i t b (jx 0)
    pwait i t b (jx 0)
    pure ⟨⟩
  | b, r + 1 => do
    gwait i b
    pwait i t (!b) (jx (r + 2))
    gat i (!b) (jx r)
    put i t b (jx (r + 1))
    chain (!b) r

/-- A trip, regularly written. -/
def trip : TProg (F := F) i := do
  fetch i t
  gat i false (jx 15)
  gwait i false
  gat i true (jx 14)
  put i t false (jx 15)
  chain i t true 14

variable [FloatOps F]

set_option maxRecDepth 65536 in
set_option maxHeartbeats 4000000 in
/-- The printed trip is `trip`. -/
theorem trip_eq (v1 : BitVec 32) :
    k1_t1_body (F := F) i tV (Memref.isWhole_whole _) xV (Memref.isWhole_whole _) oV (Memref.isWhole_whole _) iV (Memref.isWhole_whole _)
      (buf false) (Memref.isWhole_whole _) (buf true) (Memref.isWhole_whole _) cc1_scratch3 cc1_scratch4 cc1_scoped0 v1 t ⟨⟩ = trip (F := F) i t := by
  unfold k1_t1_body
  rw [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton]
  rfl

end Parts

/-! ## What the result should hold -/

open Idealize.ShloMosaic.ValueIdx

section Values

variable (T : S20224x128.Idx → Elt F .f32) (X : S320x16x128.Idx → Elt F .i32)

/-- The row number that stands at place `r` of the row numbers, read block by block, row by row. -/
def wordAt (r : Fin 655360) : BitVec 32 :=
  X (ix3 ⟨r.val / 2048, by omega⟩ ⟨r.val / 128 % 16, by omega⟩ ⟨r.val % 128, by omega⟩)

/-- The result: each row the row of the table that its row number names. -/
def goal : S655360x128.Idx → Elt F .f32 := fun r =>
  T (ix2 ⟨(wordAt X (r 0)).toNat % 20224, Nat.mod_lt _ (by decide)⟩ (r 1))

/-- Tile `(i 0, i 1)`'s first row of the result. -/
def base (i : grid1.Coords) : ℕ := 327680 * (i 0).val + 20480 * (i 1).val

/-- The result's first `n` chunks of 128 rows of the tile hold what they should. -/
def Done (i : grid1.Coords) (n : ℕ) (f : S655360x128.Idx → Elt F .f32) : Prop :=
  ∀ r : S655360x128.Idx, base i ≤ (r 0).val → (r 0).val < base i + 128 * n → f r = goal T X r

variable (i : grid1.Coords) (t : Fin k1_t1_loop.trips)

/-- The block of row numbers is in the tile's memory. -/
def Fetched (f : S16x128.Idx → Elt F .i32) : Prop :=
  ∀ (j : Fin 16) (k : Fin 128) (h : 160 * (i 0).val + 10 * (i 1).val + t.val < 320),
    f (ix2 j k) = X (ix3 ⟨160 * (i 0).val + 10 * (i 1).val + t.val, h⟩ j k)

/-- A row buffer holds the rows that row `j` of the block names. -/
def Gathered (j : Fin 16) (f : S128x128.Idx → Elt F .f32) : Prop :=
  ∀ x : S128x128.Idx, f x = goal T X ((oSl i t j).view.emb x)

theorem i0_lt (i : grid1.Coords) : (i 0).val < 2 := (i 0).isLt
theorem i1_lt (i : grid1.Coords) : (i 1).val < 16 := (i 1).isLt
theorem t_lt (t : Fin k1_t1_loop.trips) : t.val < 10 := lt_of_lt_of_le t.isLt k1_t1_abs.2.1

theorem oSl_emb0 (j : Fin 16) (x : S128x128.Idx) :
    (((oSl i t j).view.emb x) 0).val = base i + 128 * (16 * t.val + j.val) + (x 0).val := by
  show k1_off2 i t (BitVec.ofNat 32 j.val) 0 + 1 * (x 0).val = _
  rw [k1_off2_eq i t j]; unfold base
  show 327680 * (i 0).val + 20480 * (i 1).val + 2048 * t.val + 128 * j.val + 1 * (x 0).val = _
  omega

theorem oSl_emb1 (j : Fin 16) (x : S128x128.Idx) : (((oSl i t j).view.emb x) 1).val = (x 1).val := by
  show k1_off2 i t (BitVec.ofNat 32 j.val) 1 + 1 * (x 1).val = _
  rw [k1_off2_eq i t j]
  show 0 + 1 * (x 1).val = _
  omega

/-- The rows of the result that row `j` of trip `t` fills. -/
theorem mem_oSl (j : Fin 16) (r : S655360x128.Idx) :
    r ∈ (oSl i t j).view.set ↔ base i + 128 * (16 * t.val + j.val) ≤ (r 0).val ∧ (r 0).val < base i + 128 * (16 * t.val + j.val + 1) := by
  show r ∈ (oV.view.slice (Rect.unit (s := S655360x128) (k1_off2 i t (BitVec.ofNat 32 j.val)) S128x128.size (k1_off2_inb i t j))).set ↔ _
  rw [View.set_slice_whole]
  refine Rect.mem_set_unit.trans ?_
  rw [k1_off2_eq i t j]; unfold base
  have h1 : (r 1).val < 128 := (r 1).isLt
  constructor
  · intro h
    have h0 := h 0
    change 327680 * (i 0).val + 20480 * (i 1).val + 2048 * t.val + 128 * j.val ≤ (r 0).val
      ∧ (r 0).val < 327680 * (i 0).val + 20480 * (i 1).val + 2048 * t.val + 128 * j.val + 128 at h0
    omega
  · intro h a
    match a with
    | 0 =>
      change 327680 * (i 0).val + 20480 * (i 1).val + 2048 * t.val + 128 * j.val ≤ (r 0).val
        ∧ (r 0).val < 327680 * (i 0).val + 20480 * (i 1).val + 2048 * t.val + 128 * j.val + 128
      omega
    | 1 =>
      change 0 ≤ (r 1).val ∧ (r 1).val < 0 + 128
      omega

/-- The fetch leaves the block of row numbers. -/
theorem fetch_val : Fetched X i t ((xBlk i t).view.read (Elt F) X) := by
  intro j k h
  refine (View.read_apply _ _).trans ((cast_eq _ _).trans (congrArg X ?_))
  have e : Shape.reshapeEquiv (squeezes_S1x16x128_S16x128).numel_eq (ix2 j k) = ix3 (0 : Fin 1) j k :=
    Shape.reshapeEquiv_eq_of_rowMajor _ (by
      rw [Shape.rowMajor_val_three, Shape.rowMajor_val_two]
      show (0 * 16 + j.val) * 128 + k.val = j.val * 128 + k.val; omega)
  funext a
  apply Fin.ext
  show k1_off1 i t a + 1 * ((Shape.reshapeEquiv (squeezes_S1x16x128_S16x128).numel_eq (ix2 j k)) a).val = _
  rw [e, k1_off1_eq]
  match a with
  | 0 => show 160 * (i 0).val + 10 * (i 1).val + t.val + 1 * 0 = _; show _ = 160 * (i 0).val + 10 * (i 1).val + t.val; omega
  | 1 => show 0 + 1 * j.val = j.val; omega
  | 2 => show 0 + 1 * k.val = k.val; omega

/-- The place of a word in its row. -/
def place (y : S128.Idx) : Fin 128 := y 0

/-- What a row of the block reads as. -/
theorem iRow_read (f : S16x128.Idx → Elt F .i32) (j : Fin 16) (y : S128.Idx) :
    (iRow j).view.read (Elt F) f y = f (ix2 j (place y)) := by
  refine (View.read_apply _ _).trans ((cast_eq _ _).trans (congrArg f ?_))
  have e : Shape.reshapeEquiv (squeezes_S1x128_S128).numel_eq y = ix2 (0 : Fin 1) (place y) :=
    Shape.reshapeEquiv_eq_of_rowMajor _ (by
      rw [Shape.rowMajor_val_two, Shape.rowMajor_val_one]
      show 0 * 128 + (y 0).val = (y 0).val; omega)
  funext a
  apply Fin.ext
  show (![j.val, 0] : Fin 2 → ℕ) a + 1 * ((Shape.reshapeEquiv (squeezes_S1x128_S128).numel_eq y) a).val = _
  rw [e]
  match a with
  | 0 => show j.val + 1 * 0 = j.val; omega
  | 1 => show 0 + 1 * (y 0).val = (y 0).val; omega

/-- The table as the gathers read it is the table. -/
theorem tAll_read (y : S20224x128.Idx) : tAll.view.read (Elt F) T y = T y := by
  refine (View.read_apply _ _).trans ((cast_eq _ _).trans (congrArg T ?_))
  funext a
  apply Fin.ext
  show (![0, 0] : Fin 2 → ℕ) a + 1 * (y a).val = (y a).val
  match a with
  | 0 => show 0 + 1 * _ = _; omega
  | 1 => show 0 + 1 * _ = _; omega

/-- The fetched row numbers are in range when all are. -/
theorem inRange (hX : ∀ y, (X y).toNat < 20224) {f : S16x128.Idx → Elt F .i32} (hf : Fetched X i t f) (j : Fin 16) :
    ∀ y, ((iRow j).view.read (Elt F) f y).toNat < S20224x128.size gathers_S20224x128_S128x128.axis := by
  intro y
  have h : 160 * (i 0).val + 10 * (i 1).val + t.val < 320 := by have := i0_lt i; have := i1_lt i; have := t_lt t; omega
  rw [iRow_read, hf j (place y) h]
  exact hX _

/-- The gather leaves the rows that row `j` of the block names. -/
theorem gather_val (hX : ∀ y, (X y).toNat < 20224) {f : S16x128.Idx → Elt F .i32} (hf : Fetched X i t f) (j : Fin 16)
    (hn : S128.numel = S128x128.size gathers_S20224x128_S128x128.axis') :
    Gathered T X i t j (SparseCore.gatherPayload gathers_S20224x128_S128x128 (tAll.view.read (Elt F) T)
      (SparseCore.rows ((iRow j).view.read (Elt F) f) hn (inRange X i t hX hf j))) := by
  intro x
  have h0 := i0_lt i
  have h1 := i1_lt i
  have h2 := t_lt t
  have hx0 : (x 0).val < 128 := (x 0).isLt
  have h : 160 * (i 0).val + 10 * (i 1).val + t.val < 320 := by omega
  show tAll.view.read (Elt F) T _ = _
  rw [tAll_read]
  refine congrArg T ?_
  have hr : (((oSl i t j).view.emb x) 0).val = base i + 128 * (16 * t.val + j.val) + (x 0).val := oSl_emb0 i t j x
  have hy : ((S128.rowMajor.symm ((x 0).cast hn.symm)) 0).val = (x 0).val := by
    have e := Shape.rowMajor_val_one (S128.rowMajor.symm ((x 0).cast hn.symm))
    rw [Equiv.apply_symm_apply] at e
    exact e.symm
  have hw : (iRow j).view.read (Elt F) f (S128.rowMajor.symm ((x 0).cast hn.symm)) = wordAt X (((oSl i t j).view.emb x) 0) := by
    rw [iRow_read, hf j _ h]
    unfold wordAt
    refine congrArg X ?_
    funext a
    apply Fin.ext
    unfold base at hr
    match a with
    | 0 =>
      show 160 * (i 0).val + 10 * (i 1).val + t.val = (((oSl i t j).view.emb x) 0).val / 2048
      rw [hr]; omega
    | 1 =>
      show j.val = (((oSl i t j).view.emb x) 0).val / 128 % 16
      rw [hr]; omega
    | 2 =>
      show ((S128.rowMajor.symm ((x 0).cast hn.symm)) 0).val = (((oSl i t j).view.emb x) 0).val % 128
      rw [hr, hy]; omega
  funext a
  match a with
  | 0 =>
    refine (Shape.Gathers.idx_axis gathers_S20224x128_S128x128 _ x).trans (Fin.ext ?_)
    show ((iRow j).view.read (Elt F) f (S128.rowMajor.symm ((x 0).cast hn.symm))).toNat = (wordAt X (((oSl i t j).view.emb x) 0)).toNat % 20224
    rw [hw]; exact (Nat.mod_eq_of_lt (hX _)).symm
  | 1 =>
    refine Fin.ext ((Shape.Gathers.idx_of_ne gathers_S20224x128_S128x128 _ x (1 : Fin 2) (by decide)).trans ?_)
    exact (oSl_emb1 i t j x).symm

/-- The copy out of one row's gathered rows extends what is done by a chunk. -/
theorem put_val (j : Fin 16) {f : S655360x128.Idx → Elt F .f32} {g : S128x128.Idx → Elt F .f32}
    (hf : Done T X i (16 * t.val + j.val) f) (hg : Gathered T X i t j g) :
    Done T X i (16 * t.val + j.val + 1) ((oSl i t j).view.write (Elt F) f g Finset.univ) := by
  intro r hlo hhi
  by_cases hr : r ∈ (oSl i t j).view.set
  · obtain ⟨x, -, rfl⟩ := Finset.mem_map.mp hr
    rw [View.write_emb_of_mem _ _ (Finset.mem_univ x)]
    exact (cast_eq _ _).trans (hg x)
  · rw [View.write_of_not_mem _ _ _ (by rwa [View.setOn_univ])]
    refine hf r hlo ?_
    by_contra hge
    exact hr ((mem_oSl i t j r).mpr ⟨by omega, hhi⟩)

end Values

end Cert.Gathering

end
-- ==== Proof.GatherTile.lean ====
/-
  One tile's run of the gather: the rules of the trip's operations (`fetch_wp`, `gat_wp`, `gwait_wp`, `put_wp`,
  `pwait_wp`), the trip (`trip_wp`, by induction over `chain`), and the whole task (`tile_body`, by the loop's invariant).

  The table and the row numbers are read by all tiles at once, so a tile holds a share of each. The tile's own part of the
  result is held whole, by the statement that its first chunks hold what they should.
-/
module

public import proofs.«01_k».proof.Proof.GatherTrip

@[expose] public section

noncomputable section

namespace Cert.Gathering

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds of the two TensorCore calls, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The tile -/

abbrev cV (i : grid1.Coords) : Fin τ.nSC := (i 0).castLE hcore1
abbrev jV (i : grid1.Coords) : Fin τ.nSub := (i 1).castLE hsub1
/-- Device `d`'s vector subcore `(i 0, i 1)`. -/
abbrev thr (d : Dev nD) (i : grid1.Coords) : Thread nD τ := V d (cV i) (jV i)

/-- The tile's number. -/
def tile (i : grid1.Coords) : Fin 32 := ⟨16 * (i 0).val + (i 1).val, by have := i0_lt i; have := i1_lt i; omega⟩

theorem odiv : 32 ∣ S655360x128.size 0 := ⟨20480, rfl⟩
/-- Tile `w`'s part of the result: 20480 rows. -/
abbrev opart (w : Fin 32) : Rect S655360x128 := Rect.part (s := S655360x128) (a₀ := 0) odiv w
abbrev oset (w : Fin 32) : Finset S655360x128.Idx := (opart w).set

theorem mem_oset (i : grid1.Coords) (r : S655360x128.Idx) :
    r ∈ oset (tile i) ↔ base i ≤ (r 0).val ∧ (r 0).val < base i + 20480 := by
  refine Rect.mem_set_unit.trans ?_
  have h1 : (r 1).val < 128 := (r 1).isLt
  unfold base
  constructor
  · intro h
    have h0 := h 0
    simp only [Shape.partIx, Shape.partSize] at h0
    change (16 * (i 0).val + (i 1).val) * 20480 ≤ (r 0).val ∧ (r 0).val < (16 * (i 0).val + (i 1).val) * 20480 + 20480 at h0
    omega
  · intro h a
    match a with
    | 0 =>
      simp only [Shape.partIx, Shape.partSize]
      change (16 * (i 0).val + (i 1).val) * 20480 ≤ (r 0).val ∧ (r 0).val < (16 * (i 0).val + (i 1).val) * 20480 + 20480
      omega
    | 1 =>
      simp only [Shape.partIx, Shape.partSize]
      change 0 * 128 ≤ (r 1).val ∧ (r 1).val < 0 * 128 + 128
      omega

section Tile

variable (T : S20224x128.Idx → Elt F .f32) (X : S320x16x128.Idx → Elt F .i32)
variable (d : Dev nD) (i : grid1.Coords) (t : Fin k1_t1_loop.trips) (q : PosShare TreeShare)
variable (O : CellTallies nD τ sig (HIx 1)) (W : Waits sig (HIx 1))

theorem oSl_subset (j : Fin 16) : (oSl i t j).view.set ⊆ oset (tile i) := by
  intro r hr
  have h := (mem_oSl i t j r).mp hr
  have := t_lt t
  exact (mem_oset i r).mpr (by omega)

abbrev cF : GSem nD τ sig := (thr d i, .dma cc1_scoped0.sem)
abbrev cG : GSem nD τ sig := (thr d i, .dma cc1_scratch3.sem)
abbrev cP : GSem nD τ sig := (thr d i, .dma cc1_scratch4.sem)

/-- The tile's share of the table, of the row numbers; its block of row numbers; a row buffer; its part of the result. -/
abbrev tPts : sProp 𝕄 := tV.view.loc (thr d i) ↦{q} T
abbrev xPts : sProp 𝕄 := xV.view.loc (thr d i) ↦{q} X
abbrev iPts (f : S16x128.Idx → Elt F .i32) : sProp 𝕄 := iV.view.loc (thr d i) ↦{fullShare} f
abbrev bPts (b : Bool) (g : Buf (Elt F) ((buf b).view.loc (thr d i))) : sProp 𝕄 := (buf b).view.loc (thr d i) ↦{fullShare} g
abbrev oPts (f : S655360x128.Idx → Elt F .f32) : sProp 𝕄 := oV.view.loc (thr d i) ↦[oset (tile i)]{fullShare} f

/-- A row buffer at some contents; at the rows of row `j`. -/
def bAny (b : Bool) : sProp 𝕄 := iprop(∃ g, bPts d i b g)
def bRows (b : Bool) (j : Fin 16) : sProp 𝕄 := iprop(∃ g, ⌜Gathered T X i t j ((buf b).view.read (Elt F) g)⌝ ∗ bPts d i b g)
/-- The tile's part of the result with `n` chunks done. -/
def oDone (n : ℕ) : sProp 𝕄 := iprop(∃ f, ⌜Done T X i n f⌝ ∗ oPts d i f)
/-- What the tile owes, its waits so far recorded. -/
def owed : sProp 𝕄 := iprop(∃ W', ⌜∀ p ∈ W', p ∈ W ∨ p.2 = none⌝ ∗ owes (thr d i) O W')

/-- The gather of row `j` under way. -/
def GF (b : Bool) (j : Fin 16) (f : S16x128.Idx → Elt F .i32) : sProp 𝕄 :=
  Transfers.Flight countersEmb (thr d i) (.dma cc1_scratch3.sem) (default : HIx 1) (buf b).view.dmaCredit
    iprop(bRows T X d i t b j ∗ tPts T d i q ∗ iPts d i f)

/-- The copy out of row `j`'s rows under way. -/
def PF (b : Bool) (j : Fin 16) : sProp 𝕄 :=
  Transfers.Flight countersEmb (thr d i) (.dma cc1_scratch4.sem) (default : HIx 1) (oSl i t j).view.dmaCredit
    iprop(oDone T X d i (16 * t.val + j.val + 1) ∗ bAny d i b)

/-- A recorded wait on one of the tile's own semaphores changes nothing of what was said of the waits before. -/
theorem waits_insert {W W' : Waits sig (HIx 1)} (h : ∀ p ∈ W', p ∈ W ∨ p.2 = none) {s : SemLoc sig} :
    ∀ p ∈ insert (s, (default : HIx 1)) W', p ∈ W ∨ p.2 = none := by
  intro p hp
  rcases Finset.mem_insert.mp hp with hp | hp
  · exact .inr (hp ▸ rfl)
  · exact h p hp

theorem gathered_mono (b : Bool) (j : Fin 16) (g : Buf (Elt F) ((buf b).view.loc (thr d i))) (f : S16x128.Idx → Elt F .i32)
    {pay : S128x128.Idx → Elt F .f32} (hp : Gathered T X i t j pay) :
    iprop(bPts d i b ((buf b).view.write (Elt F) g pay Finset.univ) ∗ ((tAll).view.loc (thr d i) ↦{q} T) ∗ ((iRow j).view.loc (thr d i) ↦{fullShare} f))
      ⊢ iprop(bRows T X d i t b j ∗ tPts T d i q ∗ iPts d i f) := by
  unfold bRows
  iintro ⟨Hb, Ht, Hi⟩
  isplitl [Hb]
  · iexists _
    isplitr
    swap; · iexact Hb
    ipureintro
    rw [View.read_write_univ]
    exact hp
  iframe Ht Hi

theorem put_mono (b : Bool) (j : Fin 16) (g : Buf (Elt F) ((buf b).view.loc (thr d i))) (f : S655360x128.Idx → Elt F .f32)
    (hf : Done T X i (16 * t.val + j.val) f) (hg : Gathered T X i t j ((buf b).view.read (Elt F) g)) :
    iprop(((oSl i t j).view.loc (thr d i) ↦[oset (tile i)]{fullShare} (oSl i t j).view.write (Elt F) f ((buf b).view.read (Elt F) g) Finset.univ)
        ∗ ((buf b).view.loc (thr d i) ↦{fullShare} g))
      ⊢ iprop(oDone T X d i (16 * t.val + j.val + 1) ∗ bAny d i b) := by
  unfold oDone bAny
  iintro ⟨Ho, Hb⟩
  isplitl [Ho]
  · iexists _
    isplitr
    swap; · iexact Ho
    ipureintro
    exact put_val T X i t j hf hg
  iexists _; iexact Hb

variable [FloatOps F]
abbrev wpT (p : TProg (F := F) i) (Q : PUnit.{1} → sProp 𝕄) : sProp 𝕄 :=
  wp frame (wpE (defs₀ (F := F)) 𝒱₀ (thr d i) none) Set.univ p Q

theorem gat_wp (k : PUnit → TProg (F := F) i) (R : PUnit → sProp 𝕄) (hX : ∀ y, (X y).toNat < 20224) {f : S16x128.Idx → Elt F .i32} (hf : Fetched X i t f) (b : Bool) (j : Fin 16) :
    iprop(tPts T d i q ∗ bAny d i b ∗ iPts d i f ∗ semVal (cG d i) 0)
      ⊢ iprop((GF T X d i t q b j f -∗ wpT d i (k ⟨⟩) R) -∗ wpT d i (gat i b j >>= k) R) := by
  unfold bAny GF
  iintro ⟨Ht, ⟨%g, Hb⟩, Hi, Hs⟩ Hk
  have hN : ∀ h : S20224x128.Gathers 0 S128x128, ∑ l, ((buf b).slice (S128x128.rowRect h.axis' l) (S128x128.stride_rowRect h.axis' l)).view.dmaCredit
      = (buf b).view.dmaCredit := by cases b <;> decide
  iapply (SparseCore.wp_gatherFromWhole countersEmb 𝒱₀ (thr d i) none (Q := R) (src := tAll) (dst := buf b) (hg := gathers_S20224x128_S128x128) (offs := iRow j)
    (default : HIx 1) (buf b).view.dmaCredit (hN _) (by decide) (inRange X i t hX hf j)) $$ [Ht Hb Hi Hs]
  · iframe Ht Hb Hi Hs
  iintro Hfl
  iapply Hk
  iapply (Transfers.Flight_mono countersEmb (thr d i)
    (gathered_mono T X d i t q b j g f (gather_val T X i t hX hf j rfl)))
  iexact Hfl

/-- The wait of a gather under way. -/
theorem gwait_wp (k : PUnit → TProg (F := F) i) (R : PUnit → sProp 𝕄) (hO : ∀ g, O g none = 0) {f : S16x128.Idx → Elt F .i32} (b : Bool) (j : Fin 16) :
    iprop(GF T X d i t q b j f ∗ levAts (K (F := F)).L (K (F := F)).lev ∗ owed d i O W)
      ⊢ iprop((iprop((bRows T X d i t b j ∗ tPts T d i q ∗ iPts d i f) ∗ semVal (cG d i) 0 ∗ owed d i O W) -∗ wpT d i (k ⟨⟩) R)
          -∗ wpT d i (gwait i b >>= k) R) := by
  unfold owed GF
  iintro ⟨Hf, Hlv, %W', %hW', HO⟩ Hk
  ihave Hmw := ((K (F := F)).mayWaits_none (thr := thr d i) hO) $$ Hlv
  iapply (Transfers.wp_waitLocalO countersEmb 𝒱₀ (thr d i) none (Q := R) (default : HIx 1) (rfl : (buf b).view.dmaCredit = _)) $$ [Hf HO Hmw]
  · iframe Hf HO
    iapply (Transfers.MayWaits.elim (SemLoc.dma cc1_scratch3.sem)) $$ Hmw
  iintro ⟨HD, Hs, HO⟩
  iapply Hk
  iframe HD Hs
  iexists _
  isplitr
  swap; · iexact HO
  ipureintro
  exact waits_insert hW'

/-- The copy out of the rows gathered. -/
theorem put_wp (k : PUnit → TProg (F := F) i) (R : PUnit → sProp 𝕄) (b : Bool) (j : Fin 16) :
    iprop(bRows T X d i t b j ∗ oDone T X d i (16 * t.val + j.val) ∗ semVal (cP d i) 0)
      ⊢ iprop((PF T X d i t b j -∗ wpT d i (k ⟨⟩) R) -∗ wpT d i (put i t b j >>= k) R) := by
  unfold bRows oDone PF
  iintro ⟨⟨%g, %hg, Hb⟩, ⟨%f, %hf, Ho⟩, Hs⟩ Hk
  iapply (Transfers.wp_dmaFromWhole countersEmb 𝒱₀ (thr d i) none (Q := R) (src := buf b) (dst := oSl i t j) (sm := .dma cc1_scratch4.sem)
    (default : HIx 1) (oSl i t j).view.dmaCredit rfl (View.amount_pos (oSl i t j).view (.dma cc1_scratch4.sem) (show 0 < S128x128.numel by decide)) (oSl_subset i t j)) $$ [Hb Ho Hs]
  · iframe Hb Ho Hs
  iintro Hfl
  iapply Hk
  iapply (Transfers.Flight_mono countersEmb (thr d i) (put_mono T X d i t b j g f hf hg))
  iexact Hfl

/-- Its wait. -/
theorem pwait_wp (k : PUnit → TProg (F := F) i) (R : PUnit → sProp 𝕄) (hO : ∀ g, O g none = 0) (b : Bool) (j : Fin 16) :
    iprop(PF T X d i t b j ∗ levAts (K (F := F)).L (K (F := F)).lev ∗ owed d i O W)
      ⊢ iprop((iprop((oDone T X d i (16 * t.val + j.val + 1) ∗ bAny d i b) ∗ semVal (cP d i) 0 ∗ owed d i O W) -∗ wpT d i (k ⟨⟩) R)
          -∗ wpT d i (pwait i t b j >>= k) R) := by
  unfold owed PF
  iintro ⟨Hf, Hlv, %W', %hW', HO⟩ Hk
  ihave Hmw := ((K (F := F)).mayWaits_none (thr := thr d i) hO) $$ Hlv
  iapply (Transfers.wp_waitLocalO countersEmb 𝒱₀ (thr d i) none (Q := R) (default : HIx 1) (rfl : (oSl i t j).view.dmaCredit = _)) $$ [Hf HO Hmw]
  · iframe Hf HO
    iapply (Transfers.MayWaits.elim (SemLoc.dma cc1_scratch4.sem)) $$ Hmw
  iintro ⟨HD, Hs, HO⟩
  iapply Hk
  iframe HD Hs
  iexists _
  isplitr
  swap; · iexact HO
  ipureintro
  exact waits_insert hW'

/-- The fetch of the trip's block of row numbers. -/
theorem fetch_wp (k : PUnit → TProg (F := F) i) (R : PUnit → sProp 𝕄) (hO : ∀ g, O g none = 0) :
    iprop(xPts X d i q ∗ (∃ f, iPts d i f) ∗ semVal (cF d i) 0 ∗ levAts (K (F := F)).L (K (F := F)).lev ∗ owed d i O W)
      ⊢ iprop((iprop(xPts X d i q ∗ (∃ f, ⌜Fetched X i t f⌝ ∗ iPts d i f) ∗ semVal (cF d i) 0 ∗ owed d i O W) -∗ wpT d i (k ⟨⟩) R)
          -∗ wpT d i (fetch i t >>= k) R) := by
  unfold owed fetch
  iintro ⟨Hx, ⟨%f, Hi⟩, Hs, Hlv, %W', %hW', HO⟩ Hk
  ihave Hmw := ((K (F := F)).mayWaits_none (thr := thr d i) hO) $$ Hlv
  iapply (Transfers.wp_dmaFromWhole countersEmb 𝒱₀ (thr d i) none (Q := R) (src := xBlk i t) (dst := iV) (sm := .dma cc1_scoped0.sem)
    (default : HIx 1) iV.view.dmaCredit rfl (View.amount_pos iV.view (.dma cc1_scoped0.sem) (show 0 < S16x128.numel by decide)) (Finset.subset_univ _)) $$ [Hx Hi Hs]
  · iframe Hx Hi Hs
  iintro Hf
  iapply (Transfers.wp_waitLocalO countersEmb 𝒱₀ (thr d i) none (Q := R) (default : HIx 1) (rfl : iV.view.dmaCredit = _)) $$ [Hf HO Hmw]
  · iframe Hf HO
    iapply (Transfers.MayWaits.elim (SemLoc.dma cc1_scoped0.sem)) $$ Hmw
  iintro ⟨⟨Hi, Hx⟩, Hs, HO⟩
  iapply Hk
  iframe Hx Hs
  isplitl [Hi]
  · iexists _
    isplitr
    swap; · iexact Hi
    ipureintro
    rw [View.write_whole_univ]
    exact fetch_val X i t
  iexists _
  isplitr
  swap; · iexact HO
  ipureintro
  exact waits_insert hW'

/-- What the rest of a trip leaves: the trip's sixteen chunks done, everything back. -/
abbrev tripEnd (f : S16x128.Idx → Elt F .i32) : sProp 𝕄 :=
  iprop(tPts T d i q ∗ iPts d i f ∗ (bAny d i false ∗ bAny d i true) ∗ oDone T X d i (16 * t.val + 16) ∗ semVal (cG d i) 0 ∗ semVal (cP d i) 0 ∗ owed d i O W)

theorem jx_succ {r : ℕ} (hr : r < 15) : (jx (r + 1)).val + 1 = (jx r).val := by
  show 15 - (r + 1) + 1 = 15 - r
  omega

theorem bAny_both (b : Bool) : iprop(bAny d i (!b) ∗ bAny d i b) ⊢ (iprop(bAny d i false ∗ bAny d i true) : sProp 𝕄) := by
  cases b
  · iintro ⟨H1, H2⟩; iframe H1 H2
  · iintro ⟨H1, H2⟩; iframe H1 H2

/-- The rest of a trip, by induction over the rows left: the gather into `b` under way, the copy out of the row before it
    under way from the other buffer. -/
theorem chain_wp (hO : ∀ g, O g none = 0) (hX : ∀ y, (X y).toNat < 20224) {f : S16x128.Idx → Elt F .i32} (hf : Fetched X i t f) :
    ∀ (r : ℕ) (hr : r < 15) (b : Bool),
      iprop(GF T X d i t q b (jx r) f ∗ PF T X d i t (!b) (jx (r + 1)) ∗ levAts (K (F := F)).L (K (F := F)).lev ∗ owed d i O W)
        ⊢ wpT d i (chain i t b r) fun _ => tripEnd T X d i t q O W f
  | 0, _, b => by
    unfold chain
    iintro ⟨HG, HP, #Hlv, HO⟩
    iapply (gwait_wp T X d i t q O W _ _ hO b (jx 0)) $$ [HG HO]
    · iframe HG HO; iexact Hlv
    iintro ⟨⟨Hb, Ht, Hi⟩, HsG, HO⟩
    iapply (pwait_wp T X d i t O W _ _ hO (!b) (jx 1)) $$ [HP HO]
    · iframe HP HO; iexact Hlv
    iintro ⟨⟨Ho, Hb'⟩, HsP, HO⟩
    iapply (put_wp T X d i t _ _ b (jx 0)) $$ [Hb Ho HsP]
    · iframe Hb Ho HsP
    iintro HP
    iapply (pwait_wp T X d i t O W _ _ hO b (jx 0)) $$ [HP HO]
    · iframe HP HO; iexact Hlv
    iintro ⟨⟨Ho, Hb⟩, HsP, HO⟩
    unfold wpT
    rw [wp_pure]
    imodintro
    iframe Ht Hi
    isplitl [Hb Hb']
    · iapply (bAny_both d i b); iframe Hb Hb'
    iframe HsG HsP HO
    iexact Ho
  | r + 1, hr, b => by
    unfold chain
    iintro ⟨HG, HP, #Hlv, HO⟩
    iapply (gwait_wp T X d i t q O W _ _ hO b (jx (r + 1))) $$ [HG HO]
    · iframe HG HO; iexact Hlv
    iintro ⟨⟨Hb, Ht, Hi⟩, HsG, HO⟩
    iapply (pwait_wp T X d i t O W _ _ hO (!b) (jx (r + 2))) $$ [HP HO]
    · iframe HP HO; iexact Hlv
    iintro ⟨⟨Ho, Hb'⟩, HsP, HO⟩
    iapply (gat_wp T X d i t q _ _ hX hf (!b) (jx r)) $$ [Ht Hb' Hi HsG]
    · iframe Ht Hb' Hi HsG
    iintro HG
    ihave Ho' := (Entails.of_eq (congrArg (oDone T X d i) (show 16 * t.val + (jx (r + 1 + 1)).val + 1 = 16 * t.val + (jx (r + 1)).val by
      rw [add_assoc, jx_succ (by omega)]))) $$ Ho
    iapply (put_wp T X d i t _ _ b (jx (r + 1))) $$ [Hb Ho' HsP]
    · iframe Hb Ho' HsP
    iintro HP
    iapply (chain_wp hO hX hf r (by omega) (!b))
    rw [Bool.not_not]
    iframe HG HP HO
    iexact Hlv

/-- A trip: its sixteen chunks more are done. -/
theorem trip_wp (hO : ∀ g, O g none = 0) (hX : ∀ y, (X y).toNat < 20224) :
    iprop(tPts T d i q ∗ xPts X d i q ∗ (∃ f, iPts d i f) ∗ (bAny d i false ∗ bAny d i true) ∗ oDone T X d i (16 * t.val)
        ∗ semVal (cF d i) 0 ∗ semVal (cG d i) 0 ∗ semVal (cP d i) 0 ∗ levAts (K (F := F)).L (K (F := F)).lev ∗ owed d i O W)
      ⊢ wpT d i (trip i t) fun _ => iprop(tPts T d i q ∗ xPts X d i q ∗ (∃ f, iPts d i f) ∗ (bAny d i false ∗ bAny d i true)
        ∗ oDone T X d i (16 * (t.val + 1)) ∗ semVal (cF d i) 0 ∗ semVal (cG d i) 0 ∗ semVal (cP d i) 0 ∗ owed d i O W) := by
  unfold trip
  iintro ⟨Ht, Hx, Hi, ⟨Ha, Hb⟩, Ho, HsF, HsG, HsP, #Hlv, HO⟩
  iapply (fetch_wp X d i t q O W _ _ hO) $$ [Hx Hi HsF HO]
  · iframe Hx Hi HsF HO; iexact Hlv
  iintro ⟨Hx, ⟨%f, %hf, Hi⟩, HsF, HO⟩
  iapply (gat_wp T X d i t q _ _ hX hf false (jx 15)) $$ [Ht Ha Hi HsG]
  · iframe Ht Ha Hi HsG
  iintro HG
  iapply (gwait_wp T X d i t q O W _ _ hO false (jx 15)) $$ [HG HO]
  · iframe HG HO; iexact Hlv
  iintro ⟨⟨Ha, Ht, Hi⟩, HsG, HO⟩
  iapply (gat_wp T X d i t q _ _ hX hf true (jx 14)) $$ [Ht Hb Hi HsG]
  · iframe Ht Hb Hi HsG
  iintro HG
  iapply (put_wp T X d i t _ _ false (jx 15)) $$ [Ha Ho HsP]
  · iframe Ha Ho HsP
  iintro HP
  iapply (wp_wand_r frame (wpE (defs₀ (F := F)) 𝒱₀ (thr d i) none) Set.univ (Q := fun _ => tripEnd T X d i t q O W f))
  isplitl [HG HP HO]
  · iapply (chain_wp T X d i t q O W hO hX hf 14 (by omega) true)
    iframe HG HP HO; iexact Hlv
  iintro %_ ⟨Ht, Hi, Hab, Ho, HsG, HsP, HO⟩
  iframe Ht Hx Hab HsF HsG HsP HO
  isplitl [Hi]
  · iexists f; iexact Hi
  iapply (Entails.of_eq (congrArg (oDone T X d i) (show 16 * t.val + 16 = 16 * (t.val + 1) by omega)))
  iexact Ho

/-! ## The task -/

theorem ownSems0_V :
    (ownSems0 (thr d i) : sProp 𝕄)
      = iprop(semVal (cF d i) 0 ∗ semVal (cG d i) 0 ∗ semVal (cP d i) 0
          ∗ bigSep ((((ownCells (thr d i)).erase (cF d i)).erase (cG d i)).erase (cP d i)) fun g => semVal g 0) := by
  unfold SparseCore.Cfg.ownSems0
  rw [SparseCore.bigSep_erase' ((mem_ownCells (g := cF d i)).mpr ⟨rfl, by
      show (SemLoc.dma cc1_scoped0.sem : SemLoc sig).isScoped .scVector = true; decide⟩),
    SparseCore.bigSep_erase' (Finset.mem_erase.mpr ⟨by simp [cF, cG]; decide, (mem_ownCells (g := cG d i)).mpr ⟨rfl, by
      show (SemLoc.dma cc1_scratch3.sem : SemLoc sig).isScoped .scVector = true; decide⟩⟩),
    SparseCore.bigSep_erase' (Finset.mem_erase.mpr ⟨by simp [cG, cP]; decide, Finset.mem_erase.mpr ⟨by simp [cF, cP]; decide,
      (mem_ownCells (g := cP d i)).mpr ⟨rfl, by show (SemLoc.dma cc1_scratch4.sem : SemLoc sig).isScoped .scVector = true; decide⟩⟩⟩)]

abbrev ref0 (i : grid1.Coords) : DevRef τ sig := (Proc.scVector (cV i) (jV i)).devRef cc1_scratch0
abbrev ref1 (i : grid1.Coords) : DevRef τ sig := (Proc.scVector (cV i) (jV i)).devRef cc1_scratch1
abbrev ref2 (i : grid1.Coords) : DevRef τ sig := (Proc.scVector (cV i) (jV i)).devRef cc1_scratch2

/-- The three buffers of the tile are among the subcore's own. -/
theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase (ref0 i)).erase (ref1 i)).erase (ref2 i))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := ref0 i) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV i) (jV i)) (b := ref1 i) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV i) (jV i)) (b := ref2 i) rfl⟩⟩)]

/-- The loop's invariant: after `n` trips the tile's first `16 n` chunks are done, and everything else is back. -/
def inv (n : ℕ) (_ : Unit) : sProp 𝕄 :=
  iprop(tPts T d i q ∗ xPts X d i q ∗ (∃ f, iPts d i f) ∗ (bAny d i false ∗ bAny d i true) ∗ oDone T X d i (16 * n)
        ∗ semVal (cF d i) 0 ∗ semVal (cG d i) 0 ∗ semVal (cP d i) 0 ∗ levAts (K (F := F)).L (K (F := F)).lev ∗ owed d i O W)

theorem inv_step (hO : ∀ g, O g none = 0) (hX : ∀ y, (X y).toNat < 20224) (v1 : BitVec 32) (acc : Unit) :
    inv T X d i q O W t.val acc ⊢ wpT d i (k1_t1_body (F := F) i tV (Memref.isWhole_whole _) xV (Memref.isWhole_whole _) oV (Memref.isWhole_whole _)
      iV (Memref.isWhole_whole _) (buf false) (Memref.isWhole_whole _) (buf true) (Memref.isWhole_whole _) cc1_scratch3 cc1_scratch4 cc1_scoped0 v1 t acc)
      (inv T X d i q O W (t.val + 1)) := by
  rw [show acc = ⟨⟩ from rfl, trip_eq]
  unfold inv
  iintro ⟨Ht, Hx, Hi, Hab, Ho, HsF, HsG, HsP, #Hlv, HO⟩
  iapply (wp_wand_r frame (wpE (defs₀ (F := F)) 𝒱₀ (thr d i) none) Set.univ (Q := fun _ => iprop(tPts T d i q ∗ xPts X d i q ∗ (∃ f, iPts d i f)
    ∗ (bAny d i false ∗ bAny d i true) ∗ oDone T X d i (16 * (t.val + 1)) ∗ semVal (cF d i) 0 ∗ semVal (cG d i) 0 ∗ semVal (cP d i) 0 ∗ owed d i O W)))
  isplitl [Ht Hx Hi Hab Ho HsF HsG HsP HO]
  · iapply (trip_wp T X d i t q O W hO hX)
    iframe Ht Hx Hi Hab Ho HsF HsG HsP HO
    iexact Hlv
  iintro %_ ⟨Ht, Hx, Hi, Hab, Ho, HsF, HsG, HsP, HO⟩
  iframe Ht Hx Hi Hab Ho HsF HsG HsP HO
  iexact Hlv

theorem trips_eq : k1_t1_loop.trips = 10 := by decide

/-- A part of which 160 chunks are done holds the result. -/
theorem oDone_all : oDone T X d i 160 ⊢ (oPts d i (goal T X) : sProp 𝕄) := by
  unfold oDone
  iintro ⟨%f, %hf, Ho⟩
  iapply (Entails.of_eq (pointsTo_congr (ℓ := oV.view.loc (thr d i)) (I := oset (tile i)) (q := fullShare) (f := f) (g := goal T X)
    fun r hr => hf r ((mem_oset i r).mp hr).1 (by have := ((mem_oset i r).mp hr).2; omega)))
  iexact Ho

theorem oDone_none (f : S655360x128.Idx → Elt F .f32) : oPts d i f ⊢ (oDone T X d i 0 : sProp 𝕄) := by
  unfold oDone
  iintro Ho
  iexists f
  isplitr
  · ipureintro
    intro r h1 h2
    omega
  iexact Ho

/-- The task on vector subcore `(i 0, i 1)` of device `d`: from a share of the table and of the row numbers and its part of the
    result, it brings them back, its part holding the rows of the table that the row numbers name. -/
theorem tile_body (hF : (K (F := F)).Facts) (hO : ∀ g, O g none = 0) (hX : ∀ y, (X y).toNat < 20224) (f : S655360x128.Idx → Elt F .f32) :
    iprop(levAts (K (F := F)).L (K (F := F)).lev ∗ emp
        ∗ (tPts T d i q ∗ xPts X d i q ∗ oPts d i f)
        ∗ scopedBufs (thr d i) ∗ scopedSems0 (thr d i) ∗ owes (thr d i) O W)
      ⊢ wpT d i (cc1__sc_body i tV (Memref.isWhole_whole _) xV (Memref.isWhole_whole _) oV (Memref.isWhole_whole _) iV (Memref.isWhole_whole _)
          (buf false) (Memref.isWhole_whole _) (buf true) (Memref.isWhole_whole _) cc1_scratch3 cc1_scratch4 cc1_scoped0)
          fun _ => iprop((tPts T d i q ∗ xPts X d i q ∗ oPts d i (goal T X))
            ∗ scopedBufs (thr d i) ∗ scopedSems0 (thr d i)
            ∗ ∃ W', ⌜∀ p ∈ W', p ∈ W ∨ p.2 = none⌝ ∗ owes (thr d i) O W') := by
  rw [cc1__sc_body_eq_skeleton]; unfold cc1__sc_body_skel wpT
  dsimp only
  rw [(K (F := F)).scopedBufs_V hF d (cV i) (jV i), SparseCore.Cfg.scopedSems0_V (Val := Elt F) d (cV i) (jV i), ownSems0_V, ownBufs_V]
  iintro ⟨#Hlv, -, ⟨Ht, Hx, Ho⟩, ⟨⟨%fi, Hi⟩, ⟨%fa, Ha⟩, ⟨%fb, Hb⟩, Hbufs⟩, ⟨HsF, HsG, HsP, Hsems⟩, HO⟩
  ihave Ho := (oDone_none T X d i f) $$ Ho
  sl_for (inv T X d i q O W) $$ [Ht Hx Ho Hi Ha Hb HsF HsG HsP HO]
  case region =>
    intro k acc
    exact inv_step T X d i k q O W hO hX _ acc
  · unfold inv bAny owed
    iframe Ht Hx HsF HsG HsP
    isplitl [Hi]; · iexists fi; iexact Hi
    isplitl [Ha Hb]
    · isplitl [Ha]
      · iexists fa; iexact Ha
      · iexists fb; iexact Hb
    isplitl [Ho]; · iexact Ho
    isplitr; · iexact Hlv
    iexists W
    isplitr
    · ipureintro; exact fun p hp => .inl hp
    iexact HO
  iintro %_ Hinv
  unfold inv bAny owed
  icases Hinv with ⟨Ht, Hx, ⟨%fi', Hi⟩, ⟨⟨%fa', Ha⟩, ⟨%fb', Hb⟩⟩, Ho, HsF, HsG, HsP, -, HO⟩
  ihave Ho := (Entails.of_eq (congrArg (oDone T X d i) (show 16 * k1_t1_loop.trips = 160 by rw [trips_eq]))) $$ Ho
  ihave Ho := (oDone_all T X d i) $$ Ho
  sl_step
  iframe Ht Hx Ho HsF HsG HsP Hsems HO
  isplitl [Hi]; · iexists fi'; iexact Hi
  isplitl [Ha]; · iexists fa'; iexact Ha
  isplitl [Hb]; · iexists fb'; iexact Hb
  iexact Hbufs

end Tile

end Cert.Gathering

end
-- ==== Proof.Regions.lean ====
/-
  The two TensorCore calls around the SparseCore call: the bodies' triples, and each call as one step of the host program.

  The first call leaves in each block of 1000 rows the logarithm of the absolute value and the flag of the negative elements;
  the last one multiplies the two biased products. While such a call runs, the host's thread still owes the start signals of
  the SparseCore calls that come later, so its waits stay below these in level.
-/
module

public import proofs.«01_k».proof.Proof.GatherTile
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionArraysS
public import Idealize.ShloMosaic.Lib.Pipeline.Value

@[expose] public section

set_option maxRecDepth 16384

noncomputable section

namespace Cert.Gathering

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation arrRefs afterRegion)

variable {F : FTy → Type} [FloatOps F]

local notation "𝕄" => MT nD τ sig (HIx 1) (Elt F) ℕ UU ℕ

/-! ## The bodies -/

theorem origin : (![0, 0] : Fin 2 → ℕ) = fun _ => 0 := by funext a; fin_cases a <;> rfl

/-- A block as a whole. -/
abbrev all : Rect S1000x128 := Rect.unit (s := S1000x128) ![0, 0] S1000x128.size inb_S1000x128_S1000x128_0_0

theorem covers (p0 : Vec F S1000x128 .f32) (y : S1000x128.Idx) :
    ∃ pc ∈ ([⟨all, p0⟩] : List (View.Piece (Elt F) S1000x128 .f32)), y ∈ pc.1.set :=
  View.cover_of_tiled [⟨all, p0⟩] S1000x128.size (by rfl) y

set_option maxHeartbeats 1000000 in
/-- The first call's body: from its block at `x`, the logarithms and the flags. -/
theorem prep_triple (c : Dev nD) (E : Set ℕ) (i : grid0.Coords) (arg1 : Memref sig .tc .vmem S1000x128 .f32) (harg1 : arg1.IsWhole)
    (arg2 : Memref sig .tc .vmem S1000x128 .f32) (harg2 : arg2.IsWhole) (arg3 : Memref sig .tc .vmem S1000x128 .f32) (harg3 : arg3.IsWhole)
    (x : Vec F S1000x128 .f32) (Q : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (k0_pay1 x)
            ∗ owns (c : Thread nD τ) arg3 fullShare (k0_pay2 x)) -∗ Q ⟨⟩))
      ⊢ wp frame (wpE (defs₀ (F := F)) 𝒱₀ c none) E (cc0__prep_body i arg1 harg1 arg2 harg2 arg3 harg3) Q := by
  simp only [cc0__prep_body_eq_skeleton]; unfold cc0__prep_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact (View.read_writes_eq_canon _ _ _ (covers _)).trans
      ((View.canon_unit_zero origin _ _).trans (congrArg k0_pay1 (View.ld_unit_zero origin _ _)))
  iexists _; isplitr
  swap; · iexact H2
  ipureintro
  exact (View.read_writes_eq_canon _ _ _ (covers _)).trans
    ((View.canon_unit_zero origin _ _).trans (congrArg k0_pay2 (View.ld_unit_zero origin _ _)))

set_option maxHeartbeats 1000000 in
/-- The last call's body: from its seven blocks, the product of the two biased products. -/
theorem post_triple (c : Dev nD) (E : Set ℕ) (i : grid2.Coords) (arg1 : Memref sig .tc .vmem S1000x128 .f32) (harg1 : arg1.IsWhole)
    (arg2 : Memref sig .tc .vmem S1000x128 .f32) (harg2 : arg2.IsWhole) (arg3 : Memref sig .tc .vmem S1000x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S1000x128 .f32) (harg8 : arg8.IsWhole)
    (x0 x1 x2 : Vec F S1000x128 .f32) (x3 : Vec F S128x128 .f32) (x4 : Vec F S1x128 .f32) (x5 : Vec F S128x128 .f32)
    (x6 : Vec F S1x128 .f32) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k2_pay1 x0 x3 x4 x2 x1 x5 x6)) -∗ Q ⟨⟩))
      ⊢ wp frame (wpE (defs₀ (F := F)) 𝒱₀ c none) E
          (cc2__post_body i arg1 harg1 arg2 harg2 arg3 harg3 arg4 harg4 arg5 harg5 arg6 harg6 arg7 harg7 arg8 harg8) Q := by
  simp only [cc2__post_body_eq_skeleton]; unfold cc2__post_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (covers _)).trans ((View.canon_unit_zero origin _ _).trans ?_)
  congr 1 <;> exact View.ld_unit_zero origin _ _

/-! ## The proof data -/

/-- What the host's thread owes from call `n` on, and the waits it may have recorded until then. -/
abbrev owing (c : Dev nD) (n : ℕ) : CellTallies nD τ sig (HIx 1) := (K (F := F)).Otc c n
abbrev waited (c : Dev nD) (n : ℕ) : Set (SemLoc sig × HIx 1) :=
  {p | (K (F := F)).lev (T c, p.1) p.2 ≤ 8 * n}

variable (Va Vb : Dev nD → Valuation τ sig (Elt F))

/-- The block of a window of the first call, cut out of the array as the call finds it; and of the last call. -/
def blkA (c : Dev nD) (w : Fin cfg0.W) (t : Fin cfg0.N) : ((cfg0.win w).xblock (cfg0.grid.coords t)).Idx → Elt F (cfg0.win w).elt :=
  ((cfg0.win w).blk t).view.read (Elt F) (Va c (Proc.devRef .tc (Pipeline.arrRef spec0 w)))
def blkB (c : Dev nD) (w : Fin cfg2.W) (t : Fin cfg2.N) : ((cfg2.win w).xblock (cfg2.grid.coords t)).Idx → Elt F (cfg2.win w).elt :=
  ((cfg2.win w).blk t).view.read (Elt F) (Vb c (Proc.devRef .tc (Pipeline.arrRef spec2 w)))

/-- The first call's proof data, entered with the arrays at `Va`. -/
def datA (c : Dev nD) : Dat τ (Elt F) (HIx 1) ℕ UU ℕ cfg0 c where
  A w := Va c (Proc.devRef .tc (Pipeline.arrRef spec0 w))
  after w t := match w with
    | ⟨0, _⟩ => blkA Va c 0 t
    | ⟨1, _⟩ => k0_pay1 (blkA Va c 0 t)
    | ⟨2, _⟩ => k0_pay2 (blkA Va c 0 t)
  Φ _ := Pipeline.scopedRest (Ix := HIx 1) (Name := ℕ) (U := UU) (Lvl := ℕ) (Val := Elt F) spec0 c
  q _ := fullShare
  owed _ := owing (F := F) c 0
  recorded _ := waited (F := F) c 0

/-- The last call's, entered with the arrays at `Vb`. -/
def datB (c : Dev nD) : Dat τ (Elt F) (HIx 1) ℕ UU ℕ cfg2 c where
  A w := Vb c (Proc.devRef .tc (Pipeline.arrRef spec2 w))
  after w t := match w with
    | ⟨0, _⟩ => blkB Vb c 0 t
    | ⟨1, _⟩ => blkB Vb c 1 t
    | ⟨2, _⟩ => blkB Vb c 2 t
    | ⟨3, _⟩ => blkB Vb c 3 t
    | ⟨4, _⟩ => blkB Vb c 4 t
    | ⟨5, _⟩ => blkB Vb c 5 t
    | ⟨6, _⟩ => blkB Vb c 6 t
    | ⟨7, _⟩ => k2_pay1 (blkB Vb c 0 t) (blkB Vb c 3 t) (blkB Vb c 4 t) (blkB Vb c 2 t) (blkB Vb c 1 t) (blkB Vb c 5 t) (blkB Vb c 6 t)
  Φ _ := Pipeline.scopedRest (Ix := HIx 1) (Name := ℕ) (U := UU) (Lvl := ℕ) (Val := Elt F) spec2 c
  q _ := fullShare
  owed _ := owing (F := F) c 1
  recorded _ := waited (F := F) c 1

theorem beforeA (c : Dev nD) (t : Fin cfg0.N) (d) : (datA Va c).before 0 t d = blkA Va c 0 t :=
  ((datA Va c).before_in_eq_fetched 0 rfl (fun _ => rfl) (fun _ _ _ => rfl)
      (fun t => by dsimp only [datA]; unfold Dat.blockOf blkA; rfl) t d).trans
    (by unfold Dat.fetched Dat.blockOf blkA; dsimp only [datA]; rfl)

theorem beforeB (c : Dev nD) (t : Fin cfg2.N) :
    (∀ d, (datB Vb c).before 0 t d = blkB Vb c 0 t) ∧ (∀ d, (datB Vb c).before 1 t d = blkB Vb c 1 t)
    ∧ (∀ d, (datB Vb c).before 2 t d = blkB Vb c 2 t) ∧ (∀ d, (datB Vb c).before 3 t d = blkB Vb c 3 t)
    ∧ (∀ d, (datB Vb c).before 4 t d = blkB Vb c 4 t) ∧ (∀ d, (datB Vb c).before 5 t d = blkB Vb c 5 t)
    ∧ (∀ d, (datB Vb c).before 6 t d = blkB Vb c 6 t) := by
  refine ⟨fun d => ?_, fun d => ?_, fun d => ?_, fun d => ?_, fun d => ?_, fun d => ?_, fun d => ?_⟩
  all_goals
    refine ((datB Vb c).before_in_eq_fetched _ rfl (fun _ => rfl) (fun _ _ _ => rfl)
      (fun t => by dsimp only [datB]; unfold Dat.blockOf blkB; rfl) t d).trans ?_
    unfold Dat.fetched Dat.blockOf blkB; dsimp only [datB]; rfl

theorem rowA (t : Fin cfg0.N) : defs₀ (F := F) .tc cfg0.body (cfg0.bodyArgs t (cfg0.slots t)) = bodyAt0 t := rfl
theorem rowB (t : Fin cfg2.N) : defs₀ (F := F) .tc cfg2.body (cfg2.bodyArgs t (cfg2.slots t)) = bodyAt2 t := rfl

/-- What the first call's body is handed at a point, and hands back. -/
def handedA (c : Dev nD) (t : Fin cfg0.N) : sProp 𝕄 :=
  iprop((datA Va c).Φ t.castSucc ∗ (datA Va c).owesAt none t.castSucc
    ∗ (∃ d, owns (c : Thread nD τ) (st0_0 t) fullShare ((datA Va c).before 0 t d))
    ∗ (∃ d, owns (c : Thread nD τ) (st0_1 t) fullShare ((datA Va c).before 1 t d))
    ∗ (∃ d, owns (c : Thread nD τ) (st0_2 t) fullShare ((datA Va c).before 2 t d)))
def backA (c : Dev nD) (t : Fin cfg0.N) : sProp 𝕄 :=
  iprop((datA Va c).Φ t.succ ∗ (datA Va c).owesAt none t.succ
    ∗ owns (c : Thread nD τ) (st0_0 t) fullShare ((datA Va c).after 0 t)
    ∗ owns (c : Thread nD τ) (st0_1 t) fullShare ((datA Va c).after 1 t)
    ∗ owns (c : Thread nD τ) (st0_2 t) fullShare ((datA Va c).after 2 t))

theorem bodyA (c : Dev nD) (t : Fin cfg0.N) :
    handedA Va c t ⊢ wp frame (wpE (defs₀ (F := F)) 𝒱₀ c none) Set.univ (bodyAt0 t) (fun _ => backA Va c t) := by
  unfold handedA backA bodyAt0
  simp only [beforeA]
  rw [show (datA Va c).Φ t.succ = (datA Va c).Φ t.castSucc from rfl,
    show (datA Va c).owesAt none t.succ = (datA Va c).owesAt none t.castSucc from rfl,
    show (datA Va c).after 0 t = blkA Va c 0 t by dsimp only [datA], show (datA Va c).after 1 t = k0_pay1 (blkA Va c 0 t) by dsimp only [datA],
    show (datA Va c).after 2 t = k0_pay2 (blkA Va c 0 t) by dsimp only [datA]]
  iintro ⟨HΦ, Ho, ⟨%d0, H0⟩, ⟨%d1, H1⟩, ⟨%d2, H2⟩⟩
  iapply (prep_triple c Set.univ (grid0.coords t) _ _ _ _ _ _ (blkA Va c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligationA (c : Dev nD) : BodyObligation (datA Va c) (defs₀ (F := F)) 𝒱₀ none Set.univ := fun t => by
  rw [bigSep_W0, bigSep_W0, rowA]
  exact triple_restated (bodyA Va c t) rfl .rfl fun _ => .rfl

/-- The same of the last call. -/
def handedB (c : Dev nD) (t : Fin cfg2.N) : sProp 𝕄 :=
  iprop((datB Vb c).Φ t.castSucc ∗ (datB Vb c).owesAt none t.castSucc
    ∗ (∃ d, owns (c : Thread nD τ) (st2_0 t) fullShare ((datB Vb c).before 0 t d))
    ∗ (∃ d, owns (c : Thread nD τ) (st2_1 t) fullShare ((datB Vb c).before 1 t d))
    ∗ (∃ d, owns (c : Thread nD τ) (st2_2 t) fullShare ((datB Vb c).before 2 t d))
    ∗ (∃ d, owns (c : Thread nD τ) (st2_3 t) fullShare ((datB Vb c).before 3 t d))
    ∗ (∃ d, owns (c : Thread nD τ) (st2_4 t) fullShare ((datB Vb c).before 4 t d))
    ∗ (∃ d, owns (c : Thread nD τ) (st2_5 t) fullShare ((datB Vb c).before 5 t d))
    ∗ (∃ d, owns (c : Thread nD τ) (st2_6 t) fullShare ((datB Vb c).before 6 t d))
    ∗ (∃ d, owns (c : Thread nD τ) (st2_7 t) fullShare ((datB Vb c).before 7 t d)))
def backB (c : Dev nD) (t : Fin cfg2.N) : sProp 𝕄 :=
  iprop((datB Vb c).Φ t.succ ∗ (datB Vb c).owesAt none t.succ
    ∗ owns (c : Thread nD τ) (st2_0 t) fullShare ((datB Vb c).after 0 t)
    ∗ owns (c : Thread nD τ) (st2_1 t) fullShare ((datB Vb c).after 1 t)
    ∗ owns (c : Thread nD τ) (st2_2 t) fullShare ((datB Vb c).after 2 t)
    ∗ owns (c : Thread nD τ) (st2_3 t) fullShare ((datB Vb c).after 3 t)
    ∗ owns (c : Thread nD τ) (st2_4 t) fullShare ((datB Vb c).after 4 t)
    ∗ owns (c : Thread nD τ) (st2_5 t) fullShare ((datB Vb c).after 5 t)
    ∗ owns (c : Thread nD τ) (st2_6 t) fullShare ((datB Vb c).after 6 t)
    ∗ owns (c : Thread nD τ) (st2_7 t) fullShare ((datB Vb c).after 7 t))

theorem bodyB (c : Dev nD) (t : Fin cfg2.N) :
    handedB Vb c t ⊢ wp frame (wpE (defs₀ (F := F)) 𝒱₀ c none) Set.univ (bodyAt2 t) (fun _ => backB Vb c t) := by
  obtain ⟨b0, b1, b2, b3, b4, b5, b6⟩ := beforeB Vb c t
  unfold handedB backB bodyAt2
  simp only [b0, b1, b2, b3, b4, b5, b6]
  rw [show (datB Vb c).Φ t.succ = (datB Vb c).Φ t.castSucc from rfl,
    show (datB Vb c).owesAt none t.succ = (datB Vb c).owesAt none t.castSucc from rfl,
    show (datB Vb c).after 0 t = blkB Vb c 0 t by dsimp only [datB], show (datB Vb c).after 1 t = blkB Vb c 1 t by dsimp only [datB],
    show (datB Vb c).after 2 t = blkB Vb c 2 t by dsimp only [datB], show (datB Vb c).after 3 t = blkB Vb c 3 t by dsimp only [datB],
    show (datB Vb c).after 4 t = blkB Vb c 4 t by dsimp only [datB], show (datB Vb c).after 5 t = blkB Vb c 5 t by dsimp only [datB],
    show (datB Vb c).after 6 t = blkB Vb c 6 t by dsimp only [datB],
    show (datB Vb c).after 7 t = k2_pay1 (blkB Vb c 0 t) (blkB Vb c 3 t) (blkB Vb c 4 t) (blkB Vb c 2 t) (blkB Vb c 1 t) (blkB Vb c 5 t)
      (blkB Vb c 6 t) by dsimp only [datB]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (post_triple c Set.univ (grid2.coords t) _ _ _ _ _ _ _ _ _ _ _ _ _ _ _ _ (blkB Vb c 0 t) (blkB Vb c 1 t) (blkB Vb c 2 t)
    (blkB Vb c 3 t) (blkB Vb c 4 t) (blkB Vb c 5 t) (blkB Vb c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligationB (c : Dev nD) : BodyObligation (datB Vb c) (defs₀ (F := F)) 𝒱₀ none Set.univ := fun t => by
  rw [bigSep_W2, bigSep_W2, rowB]
  exact triple_restated (bodyB Vb c t) rfl .rfl fun _ => .rfl

/-! ## The calls as steps of the host program -/

/-- No table is prefetched by either call. -/
abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => datA Va c
  | ⟨1, _⟩ => fun c => datB Vb c

/-- The host's thread before its `n`-th SparseCore call: what it owes, with waits recorded at that level at most. -/
def owesNow (c : Dev nD) (n : ℕ) : sProp 𝕄 :=
  iprop(∃ W, ⌜(K (F := F)).WBelow (T c) W (8 * n)⌝ ∗ owes (T c) (owing (F := F) c n) W)

theorem owing_level (c : Dev nD) (n : ℕ) (g : GSem nD τ sig) (i : HIx 1) (h : 0 < owing (F := F) c n g i) :
    i ∈ (K (F := F)).L g ∧ 0 < (K (F := F)).lev g i := by
  exact ⟨Finset.mem_univ _, lt_of_lt_of_le (Nat.succ_pos _) (SparseCore.Cfg.lev_of_Otc_pos h)⟩

/-- One of the two calls as a step: every array at `W`, then at what the call leaves (`afterRegion`); what is owed stays owed. -/
def step (p : Fin 2) (n : ℕ) (kit : Pipeline.PLaunchFacts (nD := nD) (τ := τ) (pcfgs (F := F)) p) (hK : (pcfgs (F := F) p).pre.K = 0)
    (hbody : ∀ c, BodyObligation (pdats Va Vb p c) (defs₀ (F := F)) 𝒱₀ none Set.univ)
    (howed : ∀ c t, (pdats Va Vb p c).owed t = owing (F := F) c n)
    (hrec : ∀ c t, (pdats Va Vb p c).recorded t = waited (F := F) c n)
    (hshare : ∀ c w, (pdats Va Vb p c).share w = fullShare)
    (hΦ : ∀ c t, (pdats Va Vb p c).Φ t = Pipeline.scopedRest (Ix := HIx 1) (Name := ℕ) (U := UU) (Lvl := ℕ) (Val := Elt F) (pcfgs (F := F) p).spec c)
    (W : Dev nD → Valuation τ sig (Elt F))
    (hW : ∀ c w, (pdats Va Vb p c).arrAt w 0 = W c (Proc.devRef .tc (Pipeline.arrRef (pcfgs (F := F) p).spec w))) :
    Pipeline.RegionSeg (pcfgs (F := F)) adm (pdats Va Vb) none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_of_cut (Pipeline.pin (pcfgs (F := F)) adm) (pdats Va Vb) none p c 0 (owing (F := F) c n) (howed c)
    (fun _ _ => Finset.mem_univ _) (fun _ _ => le_rfl) (owing_level c n)
  pre c := iprop(StableHlo.held (c.tc : Thread nD τ) (Pipeline.ucRefs τ sig) (W c) ∗ owesNow (F := F) c n)
  post c := iprop(StableHlo.held (c.tc : Thread nD τ) (Pipeline.ucRefs τ sig) (afterRegion (pdats Va Vb p c) (W c)) ∗ owesNow (F := F) c n)
  X _ := BI.emp
  Y _ := BI.emp
  Z c := StableHlo.held (c.tc : Thread nD τ) (Pipeline.ucRefs τ sig \ arrRefs (pcfgs (F := F) p).spec) (W c)
  hentry c := by
    rw [Pipeline.ownSems0_none, Pipeline.prefHeld_of_none _ hK,
      StableHlo.held_sub_split (c.tc : Thread nD τ) (Pipeline.arrRefs_sub_ucRefs _ kit.win.arr_unscoped) (W c),
      ← Pipeline.arrays_held (pcfgs (F := F)) adm (pdats Va Vb) p kit c (hshare c) ((pdats Va Vb p c).arrAt · 0) (W c) (hW c)]
    unfold owesNow
    iintro ⟨⟨⟨Ha, Hr⟩, ⟨%Wd, %hWd, HO⟩⟩, -, -⟩
    imodintro
    isplitl [Ha]; · iexact Ha
    isplitr; · iempintro
    isplitl [HO]
    · unfold Dat.owesAt Pipeline.owesWithin Dat.bound
      rw [howed c 0, hrec c 0]
      iexists Wd; isplitr; · ipureintro; exact fun p hp => Or.inl (hWd p hp)
      iexact HO
    isplitr; · iempintro
    iexact Hr
  hin c := by
    rw [hΦ]; iintro ⟨-, -, H⟩; iexact H
  hout c := by
    rw [hΦ, Pipeline.ownSems0_none]
    iintro H
    isplitr; · iempintro
    isplitr; · iempintro
    iexact H
  hexit c := by
    rw [StableHlo.held_sub_split (c.tc : Thread nD τ) (Pipeline.arrRefs_sub_ucRefs _ kit.win.arr_unscoped) (afterRegion (pdats Va Vb p c) (W c)),
      StableHlo.held_congr (c.tc : Thread nD τ) (S := Pipeline.ucRefs τ sig \ arrRefs (pcfgs (F := F) p).spec)
        (V := afterRegion (pdats Va Vb p c) (W c)) (V' := W c) (Pipeline.afterRegion_off (pdats Va Vb p c) (W c) _),
      ← Pipeline.arrays_held (pcfgs (F := F)) adm (pdats Va Vb) p kit c (hshare c) ((pdats Va Vb p c).arrAt · (Pipeline.pin (pcfgs (F := F)) adm p).N)
        (afterRegion (pdats Va Vb p c) (W c)) (fun w => (Pipeline.afterRegion_arr (pdats Va Vb p c) (W c) kit.win.arr_inj w).symm)]
    unfold owesNow
    iintro ⟨Ha, HO, -, Hr⟩
    imodintro
    isplitl [Ha Hr]
    · isplitl [Ha]; · iexact Ha
      iexact Hr
    unfold Dat.owesAt Pipeline.owesWithin Dat.bound
    rw [howed c (Fin.last _), hrec c (Fin.last _)]
    icases HO with ⟨%Wd, %hWd, HO⟩; iexists Wd
    isplitr
    · ipureintro
      intro q hq
      rcases hWd hq with h | ⟨w, s, h⟩
      · exact h
      · rw [h]; exact Nat.zero_le _
    iexact HO

/-- The first call's step, and the last one's. -/
def stepA : Pipeline.RegionSeg (pcfgs (F := F)) adm (pdats Va Vb) none (defs₀ (F := F)) 𝒱₀ (K (F := F)).L (K (F := F)).lev 0 :=
  step Va Vb 0 0 launch0.toP rfl (obligationA Va) (fun _ _ => rfl) (fun _ _ => rfl) (fun c => (datA Va c).share_full fun _ => rfl)
    (fun c t => by unfold pdats; dsimp only [datA]; rfl) Va (fun c w => by unfold Dat.arrAt pdats; dsimp only [datA]; rfl)
def stepB : Pipeline.RegionSeg (pcfgs (F := F)) adm (pdats Va Vb) none (defs₀ (F := F)) 𝒱₀ (K (F := F)).L (K (F := F)).lev 1 :=
  step Va Vb 1 1 launch2.toP rfl (obligationB Vb) (fun _ _ => rfl) (fun _ _ => rfl) (fun c => (datB Vb c).share_full fun _ => rfl)
    (fun c t => by unfold pdats; dsimp only [datB]; rfl) Vb (fun c w => by unfold Dat.arrAt pdats; dsimp only [datB]; rfl)

theorem cells_inj : Function.Injective (Pipeline.cellOf (nD := nD) (τ := τ) (Pipeline.pin (pcfgs (F := F)) adm)) := cellOf_inj

/-- A step, run in the host program. -/
theorem region_wp [∀ e, Nonempty (Elt F e)] {p : Fin 2}
    (R : Pipeline.RegionSeg (pcfgs (F := F)) adm (pdats Va Vb) none (defs₀ (F := F)) 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none (Prog.lift (.customCall (Pipeline.entry p) ())) Φ)
  refine BI.Entails.trans ?_ (Pipeline.RegionSeg.wp (pcfgs (F := F)) adm (pdats Va Vb) none cells_inj EP (defs₀ (F := F)) 𝒱₀
    (K (F := F)).L (K (F := F)).lev R d none (fun _ h => nomatch h) Prog.ret Φ)
  change (_ : sProp 𝕄) ⊢ (_ : sProp 𝕄)
  iintro ⟨Hk, H⟩
  isplitl [Hk]
  · iintro H
    rw [wp_ret]; imodintro
    iapply Hk; iexact H
  iexact H

end Cert.Gathering

end
-- ==== Proof.GatherLaunch.lean ====
/-
  The whole program: the first TensorCore call, the host's table and row numbers, the SparseCore call on two SparseCores of
  sixteen tiles each, the host's sums of its rows, and the last TensorCore call.

  The SparseCore call takes the table, the row numbers and the result whole. A tile gets a thirty-second share of the table and
  of the row numbers, and its own 20480 rows of the result; it brings these rows back at what was to be gathered (`tile_body`).
  `run_all` says what the program leaves: every array at the last of the valuations `V0`, `VA`, `V1`, `V2`, `V3`, `V4`.
-/
module

public import proofs.«01_k».proof.Proof.Regions
public import Idealize.ShloMosaic.Lib.ShareLeaves
public import Idealize.ShloMosaic.Lib.Pipeline.Frame

@[expose] public section

noncomputable section

namespace Cert.Gathering

open Cert.KernelIdeal Cert.KernelIdeal.Gen

open Idealize.ShloMosaic
open Idealize.ShloMosaic.StableHlo (held after seq nullary unary binary ternary nary)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's operations -/

/-- Before the SparseCore call: the table of twice 10112 rows, the row numbers, padded, twice, the target rows, and zeros. -/
abbrev pre : List (HloOp τ sig (Elt F)) :=
  [ nullary main_cst (constant S_ .f32 0x00000000#32),
    unary main_cst main_v1 (broadcastInDim S112x128 ![] bcast_S_S112x128 : (⟨S_, .f32⟩ : BufTy).Contents (Elt F) → (⟨S112x128, .f32⟩ : BufTy).Contents (Elt F)),
    nary ![main_v0_0, main_v1, main_v0_1, main_v1] main_v2 (fun u => (concatenate S20224x128 0 [⟨S10000x128, (u 0 : (⟨S10000x128, .f32⟩ : BufTy).Contents (Elt F))⟩, ⟨S112x128, (u 1 : (⟨S112x128, .f32⟩ : BufTy).Contents (Elt F))⟩, ⟨S10000x128, (u 2 : (⟨S10000x128, .f32⟩ : BufTy).Contents (Elt F))⟩, ⟨S112x128, (u 3 : (⟨S112x128, .f32⟩ : BufTy).Contents (Elt F))⟩] concatenates_S10000x128_S112x128_S10000x128_S112x128_S20224x128_d0 : (⟨S20224x128, .f32⟩ : BufTy).Contents (Elt F))),
    unary main_arg1 main_v3 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v3 main_v4 (rfl : (.i32 : EltTy) = .i32) shapeCasts_S1x320000_S320000,
    unary main_arg1 main_v5 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v5 main_v6 (rfl : (.i32 : EltTy) = .i32) shapeCasts_S1x320000_S320000,
    nullary main_c (constantI S_ 32 10000#32),
    unary main_c main_v7 (broadcastInDim S7680 ![] bcast_S_S7680 : (⟨S_, .i32⟩ : BufTy).Contents (Elt F) → (⟨S7680, .i32⟩ : BufTy).Contents (Elt F)),
    binary main_v4 main_v7 main_v8 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    binary main_v6 main_v7 main_v9 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    nullary main_c_0 (constantI S_ 32 10112#32),
    unary main_c_0 main_v10 (broadcastInDim S327680 ![] bcast_S_S327680 : (⟨S_, .i32⟩ : BufTy).Contents (Elt F) → (⟨S327680, .i32⟩ : BufTy).Contents (Elt F)),
    binary main_v8 main_v10 main_v11 (addi : (⟨S327680, .i32⟩ : BufTy).Contents (Elt F) → (⟨S327680, .i32⟩ : BufTy).Contents (Elt F) → (⟨S327680, .i32⟩ : BufTy).Contents (Elt F)),
    binary main_v8 main_v11 main_v12 ((fun a b => concatenate S655360 0 [⟨S327680, a⟩, ⟨S327680, b⟩] concatenates_S327680_S327680_S655360_d0) : (⟨S327680, .i32⟩ : BufTy).Contents (Elt F) → (⟨S327680, .i32⟩ : BufTy).Contents (Elt F) → (⟨S655360, .i32⟩ : BufTy).Contents (Elt F)),
    StableHlo.reshape main_v12 main_v13 (rfl : (.i32 : EltTy) = .i32) shapeCasts_S655360_S320x16x128,
    StableHlo.reshape main_v9 main_v14 (rfl : (.i32 : EltTy) = .i32) shapeCasts_S327680_S160x16x128,
    nullary main_cst_1 (constant S_ .f32 0x00000000#32),
    unary main_cst_1 main_v15 (broadcastInDim S10112x128 ![] bcast_S_S10112x128 : (⟨S_, .f32⟩ : BufTy).Contents (Elt F) → (⟨S10112x128, .f32⟩ : BufTy).Contents (Elt F)) ]

/-- After it: both halves of its result added up row by row at the target rows, and the last call's operands. -/
abbrev post : List (HloOp τ sig (Elt F)) :=
  [ StableHlo.reshape main_v14 main_v17 (rfl : (.i32 : EltTy) = .i32) shapeCasts_S160x16x128_S327680,
    unary main_v16 main_v18 ((extractStridedSlice S327680x128 ![0, 0] · slices_S655360x128_S327680x128_0_0) : (⟨S655360x128, .f32⟩ : BufTy).Contents (Elt F) → (⟨S327680x128, .f32⟩ : BufTy).Contents (Elt F)),
    nullary main_c_2 (constantI S_ 32 0#32),
    unary main_c_2 main_v19 (broadcastInDim S327680 ![] bcast_S_S327680 : (⟨S_, .i32⟩ : BufTy).Contents (Elt F) → (⟨S327680, .i32⟩ : BufTy).Contents (Elt F)),
    binary main_v17 main_v19 main_v20 (cmpi .slt : (⟨S327680, .i32⟩ : BufTy).Contents (Elt F) → (⟨S327680, .i32⟩ : BufTy).Contents (Elt F) → (⟨S327680, .i1⟩ : BufTy).Contents (Elt F)),
    nullary main_c_3 (constantI S_ 32 10112#32),
    unary main_c_3 main_v21 (broadcastInDim S327680 ![] bcast_S_S327680 : (⟨S_, .i32⟩ : BufTy).Contents (Elt F) → (⟨S327680, .i32⟩ : BufTy).Contents (Elt F)),
    binary main_v17 main_v21 main_v22 (addi : (⟨S327680, .i32⟩ : BufTy).Contents (Elt F) → (⟨S327680, .i32⟩ : BufTy).Contents (Elt F) → (⟨S327680, .i32⟩ : BufTy).Contents (Elt F)),
    ternary main_v20 main_v22 main_v17 main_v23 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v23 main_v24 (broadcastInDim S327680x1 ![0] bcast_S327680_S327680x1_0 : (⟨S327680, .i32⟩ : BufTy).Contents (Elt F) → (⟨S327680x1, .i32⟩ : BufTy).Contents (Elt F)),
    ternary main_v15 main_v24 main_v18 main_v25 ((fun x i u => Host.scatterAdd scatter_S10112x128_S327680x1_S327680x128_1_0_0_1 x i u) : (⟨S10112x128, .f32⟩ : BufTy).Contents (Elt F) → (⟨S327680x1, .i32⟩ : BufTy).Contents (Elt F) → (⟨S327680x128, .f32⟩ : BufTy).Contents (Elt F) → (⟨S10112x128, .f32⟩ : BufTy).Contents (Elt F)),
    unary main_v16 main_v26 ((extractStridedSlice S327680x128 ![327680, 0] · slices_S655360x128_S327680x128_327680_0) : (⟨S655360x128, .f32⟩ : BufTy).Contents (Elt F) → (⟨S327680x128, .f32⟩ : BufTy).Contents (Elt F)),
    nullary main_c_4 (constantI S_ 32 0#32),
    unary main_c_4 main_v27 (broadcastInDim S327680 ![] bcast_S_S327680 : (⟨S_, .i32⟩ : BufTy).Contents (Elt F) → (⟨S327680, .i32⟩ : BufTy).Contents (Elt F)),
    binary main_v17 main_v27 main_v28 (cmpi .slt : (⟨S327680, .i32⟩ : BufTy).Contents (Elt F) → (⟨S327680, .i32⟩ : BufTy).Contents (Elt F) → (⟨S327680, .i1⟩ : BufTy).Contents (Elt F)),
    nullary main_c_5 (constantI S_ 32 10112#32),
    unary main_c_5 main_v29 (broadcastInDim S327680 ![] bcast_S_S327680 : (⟨S_, .i32⟩ : BufTy).Contents (Elt F) → (⟨S327680, .i32⟩ : BufTy).Contents (Elt F)),
    binary main_v17 main_v29 main_v30 (addi : (⟨S327680, .i32⟩ : BufTy).Contents (Elt F) → (⟨S327680, .i32⟩ : BufTy).Contents (Elt F) → (⟨S327680, .i32⟩ : BufTy).Contents (Elt F)),
    ternary main_v28 main_v30 main_v17 main_v31 (select : (⟨S327680, .i1⟩ : BufTy).Contents (Elt F) → (⟨S327680, .i32⟩ : BufTy).Contents (Elt F) → (⟨S327680, .i32⟩ : BufTy).Contents (Elt F) → (⟨S327680, .i32⟩ : BufTy).Contents (Elt F)),
    unary main_v31 main_v32 (broadcastInDim S327680x1 ![0] bcast_S327680_S327680x1_0 : (⟨S327680, .i32⟩ : BufTy).Contents (Elt F) → (⟨S327680x1, .i32⟩ : BufTy).Contents (Elt F)),
    ternary main_v15 main_v32 main_v26 main_v33 ((fun x i u => Host.scatterAdd scatter_S10112x128_S327680x1_S327680x128_1_0_0_1 x i u) : (⟨S10112x128, .f32⟩ : BufTy).Contents (Elt F) → (⟨S327680x1, .i32⟩ : BufTy).Contents (Elt F) → (⟨S327680x128, .f32⟩ : BufTy).Contents (Elt F) → (⟨S10112x128, .f32⟩ : BufTy).Contents (Elt F)),
    binary main_v25 main_v33 main_v34 ((fun a b => concatenate S20224x128 0 [⟨S10112x128, a⟩, ⟨S10112x128, b⟩] concatenates_S10112x128_S10112x128_S20224x128_d0) : (⟨S10112x128, .f32⟩ : BufTy).Contents (Elt F) → (⟨S10112x128, .f32⟩ : BufTy).Contents (Elt F) → (⟨S20224x128, .f32⟩ : BufTy).Contents (Elt F)),
    unary main_v34 main_v35 ((extractStridedSlice S10000x128 ![0, 0] · slices_S20224x128_S10000x128_0_0) : (⟨S20224x128, .f32⟩ : BufTy).Contents (Elt F) → (⟨S10000x128, .f32⟩ : BufTy).Contents (Elt F)),
    unary main_v34 main_v36 ((extractStridedSlice S10000x128 ![10112, 0] · slices_S20224x128_S10000x128_10112_0) : (⟨S20224x128, .f32⟩ : BufTy).Contents (Elt F) → (⟨S10000x128, .f32⟩ : BufTy).Contents (Elt F)),
    unary main_arg2 main_v37 ((transpose S128x128 [1, 0] · transposes_S128x128_S128x128_1_0) : (⟨S128x128, .f32⟩ : BufTy).Contents (Elt F) → (⟨S128x128, .f32⟩ : BufTy).Contents (Elt F)),
    unary main_arg4 main_v38 ((transpose S128x128 [1, 0] · transposes_S128x128_S128x128_1_0) : (⟨S128x128, .f32⟩ : BufTy).Contents (Elt F) → (⟨S128x128, .f32⟩ : BufTy).Contents (Elt F)),
    StableHlo.reshape main_arg3 main_v39 (rfl : (.f32 : EltTy) = .f32) shapeCasts_S128_S1x128,
    StableHlo.reshape main_arg5 main_v40 (rfl : (.f32 : EltTy) = .f32) shapeCasts_S128_S1x128 ]

theorem main_eq (d : Dev nD) : main (F := F) d = Prog.lift (.customCall (SparseCore.inner (Pipeline.entry 0)) ()) >>= fun _ =>
    (seq pre >>= fun _ => ((K (F := F)).run d 0 >>= fun _ => (seq post >>= fun _ =>
      (Prog.lift (.customCall (SparseCore.inner (Pipeline.entry 1)) ()) >>= fun _ => pure ⟨⟩)))) := rfl

theorem pre_sub : (pre (F := F)).Forall fun op => op.bufs ⊆ StableHlo.tcRefs τ sig :=
  ⟨StableHlo.nullary_bufs_sub .., StableHlo.unary_bufs_sub .., StableHlo.nary_bufs_sub .., StableHlo.unary_bufs_sub ..,
    StableHlo.reshape_bufs_sub .., StableHlo.unary_bufs_sub .., StableHlo.reshape_bufs_sub .., StableHlo.nullary_bufs_sub ..,
    StableHlo.unary_bufs_sub .., StableHlo.binary_bufs_sub .., StableHlo.binary_bufs_sub .., StableHlo.nullary_bufs_sub ..,
    StableHlo.unary_bufs_sub .., StableHlo.binary_bufs_sub .., StableHlo.binary_bufs_sub .., StableHlo.reshape_bufs_sub ..,
    StableHlo.reshape_bufs_sub .., StableHlo.nullary_bufs_sub .., StableHlo.unary_bufs_sub ..⟩
theorem post_sub : (post (F := F)).Forall fun op => op.bufs ⊆ StableHlo.tcRefs τ sig :=
  ⟨StableHlo.reshape_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.ternary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.ternary_bufs_sub .., StableHlo.binary_bufs_sub .., StableHlo.unary_bufs_sub .., StableHlo.unary_bufs_sub ..,
    StableHlo.unary_bufs_sub .., StableHlo.unary_bufs_sub .., StableHlo.reshape_bufs_sub .., StableHlo.reshape_bufs_sub ..⟩
theorem pre_fresh : (pre (F := F)).Forall fun op => op.fresh = ∅ := StableHlo.forall_fresh_of_map rfl
theorem post_fresh : (post (F := F)).Forall fun op => op.fresh = ∅ := StableHlo.forall_fresh_of_map rfl

/-! ## What the arrays hold -/

variable (m : (ℓ : Loc nD τ sig) → Buf (Elt F) ℓ) (ρ : Dev nD → PrngReg)

abbrev tRef : DevRef τ sig := Proc.devRef .tc (main_v2 : Ref sig .tc)
abbrev xRef : DevRef τ sig := Proc.devRef .tc (main_v13 : Ref sig .tc)
abbrev oRef : DevRef τ sig := Proc.devRef .tc (main_v16 : Ref sig .tc)

/-- At launch, after the first call, before the SparseCore call. -/
def V0 (d : Dev nD) : Valuation τ sig (Elt F) := fun b => m (d, b)
def VA (d : Dev nD) : Valuation τ sig (Elt F) := Pipeline.afterRegion (datA (V0 m) d) (V0 m d)
def V1 (d : Dev nD) : Valuation τ sig (Elt F) := after pre (VA m d)
/-- The table and the row numbers the call is made with. -/
def tab (d : Dev nD) : S20224x128.Idx → Elt F .f32 := V1 m d tRef
def src (d : Dev nD) : S320x16x128.Idx → Elt F .i32 := V1 m d xRef
def V2 (d : Dev nD) : Valuation τ sig (Elt F) := Function.update (V1 m d) oRef (goal (tab m d) (src m d))
/-- Before the last call, and at the end. -/
def V3 (d : Dev nD) : Valuation τ sig (Elt F) := after post (V2 m d)
def V4 (d : Dev nD) : Valuation τ sig (Elt F) := Pipeline.afterRegion (datB (V3 m) d) (V3 m d)

/-- What the proof asks of the launch memory: every row number is a row of the table. -/
def PreOK : Prop := ∀ (d : Dev nD) (y : S320x16x128.Idx), (src m d y).toNat < 20224

/-! ## The call's operands, dealt out and collected -/

abbrev tLoc (d : Dev nD) : Loc nD τ sig := (d, tRef)
abbrev xLoc (d : Dev nD) : Loc nD τ sig := (d, xRef)
abbrev oLoc (d : Dev nD) : Loc nD τ sig := (d, oRef)
/-- Tile `w`'s share of what all tiles read. -/
abbrev shr (w : Fin 32) : PosShare TreeShare := ShareLeaves.leaf 5 fullShare w

/-- The arrays whole, the result at `f`; tile `w`'s part of them. -/
def whole (d : Dev nD) (f : S655360x128.Idx → Elt F .f32) : sProp 𝕄 :=
  iprop((tLoc d ↦{fullShare} tab m d) ∗ (xLoc d ↦{fullShare} src m d) ∗ oLoc d ↦{fullShare} f)
abbrev part (d : Dev nD) (w : Fin 32) (f : S655360x128.Idx → Elt F .f32) : sProp 𝕄 :=
  iprop((tLoc d ↦{shr w} tab m d) ∗ (xLoc d ↦{shr w} src m d) ∗ oLoc d ↦[oset w]{fullShare} f)

omit [FloatOps F] in
theorem shares {ℓ : Loc nD τ sig} (f : Buf (Elt F) ℓ) :
    (ℓ ↦{fullShare} f : sProp 𝕄) = bigSep Finset.univ fun w : Fin 32 => (ℓ ↦{shr w} f : sProp 𝕄) :=
  ShareLeaves.pointsTo_leaves Finset.univ f 5 fullShare

theorem whole_parts (d : Dev nD) (f : S655360x128.Idx → Elt F .f32) :
    (whole m d f : sProp 𝕄) = bigSep Finset.univ fun w : Fin 32 => part m d w f := by
  unfold whole
  rw [bigSep_sep', bigSep_sep', shares (ℓ := tLoc d), shares (ℓ := xLoc d),
    ← pointsTo_biUnion Finset.univ (ℓ := oLoc d) (q := fullShare) (f := f) oset (fun i _ j _ h => Rect.part_disjoint odiv h),
    show (Finset.univ : Finset (Fin 32)).biUnion oset = Finset.univ from Rect.biUnion_part odiv]

/-- The number of tile `s` of SparseCore `c`. -/
abbrev num (c : Fin 2) (s : Fin 16) : Fin 32 := finProdFinEquiv (c, s)

theorem parts_cores (Φ : Fin 32 → sProp 𝕄) :
    bigSep Finset.univ Φ = bigSep Finset.univ fun c : Fin 2 => bigSep Finset.univ fun s : Fin 16 => Φ (num c s) := by
  rw [← SparseCore.bigSep_product Finset.univ Finset.univ (fun p : Fin 2 × Fin 16 => Φ (finProdFinEquiv p)), Finset.univ_product_univ]
  exact bigSep_univ_equiv (finProdFinEquiv (m := 2) (n := 16)) Φ

/-- A SparseCore is started with its sixteen tiles' parts and ends with them, each tile's part of the result gathered. -/
def P : (K (F := F)).Pay (nD := nD) (Val := Elt F) (Name := ℕ) (U := UU) where
  st := fun q d c => match q with | 0 => bigSep Finset.univ fun s : Fin 16 => part m d (num (Fin.cast nCore_zero c) s) (V1 m d oRef)
  dn := fun q d c => match q with | 0 => bigSep Finset.univ fun s : Fin 16 => part m d (num (Fin.cast nCore_zero c) s) (goal (tab m d) (src m d))
  go := fun q d c i => match q with | 0 => part m d (num (Fin.cast nCore_zero c) (Fin.cast nSub_zero i)) (V1 m d oRef)
  td := fun q d c i => match q with | 0 => part m d (num (Fin.cast nCore_zero c) (Fin.cast nSub_zero i)) (goal (tab m d) (src m d))
  x := fun _ _ => iprop(emp)

instance P_storable : (P (F := F) m).IsStorable where
  st q d c := match q with
    | 0 => (inferInstance : BI.Storable (upEmb : UEmb _ 𝕄) (bigSep Finset.univ fun s : Fin 16 => part m d (num (Fin.cast nCore_zero c) s) (V1 m d oRef)))
  dn q d c := match q with
    | 0 => (inferInstance : BI.Storable (upEmb : UEmb _ 𝕄) (bigSep Finset.univ fun s : Fin 16 => part m d (num (Fin.cast nCore_zero c) s) (goal (tab m d) (src m d))))
  go q d c i := match q with
    | 0 => (inferInstance : BI.Storable (upEmb : UEmb _ 𝕄) (part m d (num (Fin.cast nCore_zero c) (Fin.cast nSub_zero i)) (V1 m d oRef)))
  td q d c i := match q with
    | 0 => (inferInstance : BI.Storable (upEmb : UEmb _ 𝕄) (part m d (num (Fin.cast nCore_zero c) (Fin.cast nSub_zero i)) (goal (tab m d) (src m d))))

/-! ## The tile's task as the launch asks for it -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          tV (Memref.isWhole_whole _) xV (Memref.isWhole_whole _) oV (Memref.isWhole_whole _) iV (Memref.isWhole_whole _)
          (buf false) (Memref.isWhole_whole _) (buf true) (Memref.isWhole_whole _) cc1_scratch3 cc1_scratch4 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem tile_num (c : Fin ((K (F := F)).nCore 0)) (i : Fin ((K (F := F)).nSub 0))
    (h : ((K (F := F)).core 0 c).val < grid1.bound 0) (h' : ((K (F := F)).sub 0 i).val < grid1.bound 1) :
    tile (coordsV ⟨((K (F := F)).core 0 c).val, h⟩ ⟨((K (F := F)).sub 0 i).val, h'⟩) = num (Fin.cast nCore_zero c) (Fin.cast nSub_zero i) :=
  Fin.ext (show 16 * c.val + i.val = i.val + 16 * c.val from Nat.add_comm _ _)

theorem tile_part (d : Dev nD) (i : grid1.Coords) (f : S655360x128.Idx → Elt F .f32) :
    iprop(tPts (tab m d) d i (shr (tile i)) ∗ xPts (src m d) d i (shr (tile i)) ∗ oPts d i f) = (part m d (tile i) f : sProp 𝕄) := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body (tab m d) (src m d) d (coordsV ⟨_, hci.1⟩ ⟨_, hci.2⟩) (shr (tile (coordsV ⟨_, hci.1⟩ ⟨_, hci.2⟩)))
    O W hF hO (hpre d) (V1 m d oRef)
  unfold wpT at hb
  rw [tile_part, tile_part, tile_num c i hci.1 hci.2] at hb
  exact hb.trans (wp_mono frame _ _ fun _ => obl_post)

theorem vecSplit : (K (F := F)).VecSplit' (P m) 0 := by
  intro d c
  show (bigSep Finset.univ fun s : Fin 16 => part m d (num (Fin.cast nCore_zero c) s) (V1 m d oRef)) ⊢ |={Set.univ}=> iprop(
      (bigSep Finset.univ fun i : Fin ((K (F := F)).nSub 0) => part m d (num (Fin.cast nCore_zero c) (Fin.cast nSub_zero i)) (V1 m d oRef))
      ∗ ((bigSep Finset.univ fun i : Fin ((K (F := F)).nSub 0) => part m d (num (Fin.cast nCore_zero c) (Fin.cast nSub_zero i)) (goal (tab m d) (src m d)))
          -∗ (bigSep Finset.univ fun s : Fin 16 => part m d (num (Fin.cast nCore_zero c) s) (goal (tab m d) (src m d)))))
  iintro H; imodintro
  isplitl [H]; · iexact H
  iintro H; iexact H

/-! ## The launch's own part of the state -/

abbrev pcells : Finset (GSem nD τ sig) := Pipeline.cells (Pipeline.pin (pcfgs (F := F)) adm) cells_inj
abbrev ptoks : Finset (GSem nD τ sig × ℕ × Unit) := Pipeline.launchToks (Pipeline.pin (pcfgs (F := F)) adm) cells_inj

def u₀ : UU := (initOf (K (F := F)).hsCells (K (F := F)).hsToks, (initOf (pcells (F := F)) (ptoks (F := F)), 1))

omit [FloatOps F] in
theorem bigSep_emp' {I : Type} (s : Finset I) : (bigSep s fun _ => iprop(emp)) = (iprop(emp) : sProp 𝕄) := bigSep_emp_const s

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What one device's two TensorCore calls start from. -/
abbrev ghosts (d : Dev nD) : sProp 𝕄 :=
  bigSep Finset.univ fun p : Fin 2 => iprop(Pipeline.cellsGhost (Pipeline.pin (pcfgs (F := F)) adm) EP p d
    ∗ Pipeline.toksInit (Pipeline.pin (pcfgs (F := F)) adm) EP p d)

theorem ghosts_two (d : Dev nD) : (ghosts (F := F) d)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold ghosts
  rw [show (Finset.univ : Finset (Fin 2)) = insert 0 {1} from rfl, SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P m).x q thr) := by
  unfold u₀
  iintro Hu
  ihave H := (ownU_split (F := F) (initOf (K (F := F)).hsCells (K (F := F)).hsToks) (initOf (pcells (F := F)) (ptoks (F := F)))) $$ Hu
  icases H with ⟨HH, HP⟩
  imod (Pipeline.fund_ghost (Pipeline.pin (pcfgs (F := F)) adm) EP cells_inj) $$ HP with ⟨Hg, Ht⟩
  imodintro
  isplitl [HH]; · iexact HH
  isplitl [Hg Ht]
  · simp only [ghosts, bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem st_eq (d : Dev nD) : (bigSep Finset.univ fun c : Fin ((K (F := F)).nCore 0) => (P m).st 0 d c) = (whole m d (V1 m d oRef) : sProp 𝕄) := by
  rw [whole_parts, parts_cores]; rfl
theorem dn_eq (d : Dev nD) : (bigSep Finset.univ fun c : Fin ((K (F := F)).nCore 0) => (P m).dn 0 d c) = (whole m d (goal (tab m d) (src m d)) : sProp 𝕄) := by
  rw [whole_parts, parts_cores]; rfl

/-- The arrays of the call among the TensorCore's. -/
abbrev S3 : Finset (DevRef τ sig) := {tRef, xRef, oRef}
abbrev Su : Finset (DevRef τ sig) := Pipeline.ucRefs τ sig

theorem mem_Su (b : Ref sig .tc) (h : b.isScoped = false) : Proc.devRef (τ := τ) .tc b ∈ Su :=
  Finset.mem_filter.mpr ⟨StableHlo.devRef_mem_tcRefs b, fun h' => Bool.noConfusion (h'.symm.trans h)⟩

theorem S3_sub : S3 ⊆ Su := by
  intro b hb
  rcases Finset.mem_insert.mp hb with rfl | hb
  · exact mem_Su main_v2 rfl
  rcases Finset.mem_insert.mp hb with rfl | hb
  · exact mem_Su main_v13 rfl
  · exact Finset.mem_singleton.mp hb ▸ mem_Su main_v16 rfl

theorem held_S3 (d : Dev nD) (W : Valuation τ sig (Elt F)) :
    (held (T d) S3 W : sProp 𝕄) = iprop((tLoc d ↦{fullShare} W tRef) ∗ (xLoc d ↦{fullShare} W xRef) ∗ oLoc d ↦{fullShare} W oRef) := by
  unfold held S3
  rw [SparseCore.bigSep_insert' (by decide), SparseCore.bigSep_insert' (by decide), bigSep_singleton]

theorem held_V1 (d : Dev nD) : (held (T d) Su (V1 m d) : sProp 𝕄) = iprop(whole m d (V1 m d oRef) ∗ held (T d) (Su \ S3) (V1 m d)) := by
  rw [StableHlo.held_sub_split (T d) S3_sub, held_S3]; rfl

theorem held_V2 (d : Dev nD) : (held (T d) Su (V2 m d) : sProp 𝕄) = iprop(whole m d (goal (tab m d) (src m d)) ∗ held (T d) (Su \ S3) (V1 m d)) := by
  rw [StableHlo.held_sub_split (T d) S3_sub, held_S3,
    StableHlo.held_congr (T d) (S := Su \ S3) (V := V2 m d) (V' := V1 m d) fun b hb =>
      Function.update_of_ne (fun h => (Finset.mem_sdiff.mp hb).2 (by rw [h]; decide)) _ _,
    show V2 m d oRef = goal (tab m d) (src m d) from Function.update_self _ _ _,
    show V2 m d tRef = tab m d from Function.update_of_ne (by decide) _ _,
    show V2 m d xRef = src m d from Function.update_of_ne (by decide) _ _]
  rfl

/-- What @main leaves: every array, at the last values. -/
abbrev FIN (d : Dev nD) : sProp 𝕄 := held (T d) Su (V4 m d)

/-- The two calls as they stand in @main. -/
theorem first_wp [∀ e, Nonempty (Elt F e)] (d : Dev nD) (Φ : PUnit → sProp 𝕄) :
    iprop((iprop(boundary (T d) ∗ held (T d) Su (VA m d) ∗ owesNow (F := F) d 0) -∗ Φ ⟨⟩) ∗ boundary (T d)
        ∗ (held (T d) Su (V0 m d) ∗ owesNow (F := F) d 0) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ :=
  region_wp (V0 m) (V3 m) (stepA (V0 m) (V3 m)) d Φ
theorem last_wp [∀ e, Nonempty (Elt F e)] (d : Dev nD) (Φ : PUnit → sProp 𝕄) :
    iprop((iprop(boundary (T d) ∗ held (T d) Su (V4 m d) ∗ owesNow (F := F) d 1) -∗ Φ ⟨⟩) ∗ boundary (T d)
        ∗ (held (T d) Su (V3 m d) ∗ owesNow (F := F) d 1) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ :=
  region_wp (V0 m) (V3 m) (stepB (V0 m) (V3 m)) d Φ

/-- The handshakes' state of the host's thread, what it owes apart. -/
theorem tcSt_split (d : Dev nD) (n : ℕ) : ((K (F := F)).tcSt EH d n : sProp 𝕄)
    ⊢ iprop(owesNow (F := F) d n ∗ (owesNow (F := F) d n -∗ (K (F := F)).tcSt EH d n)) := by
  unfold SparseCore.Cfg.tcSt owesNow
  iintro ⟨HO, Hr⟩
  isplitl [HO]; · iexact HO
  iintro HO
  isplitl [HO]; · iexact HO
  iexact Hr

/-- @main on device `d`'s TensorCore: the first call, the host's line, the SparseCore call, the host's line, the last call. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, ghosts_two, show (unscopedBufs d (fun b => m ((SparseCore.T d).loc b)) : sProp 𝕄) = held (T d) Su (V0 m d) from Pipeline.unscopedBufs_held d (V0 m d)]
  iintro ⟨#Hctx, Hst, ⟨Hb, Hheld, Hts, -⟩, ⟨⟨Hg0, Ht0⟩, ⟨Hg1, Ht1⟩⟩⟩
  ihave #Hlev := ((K (F := F)).ctx_levAts κ) $$ Hctx
  ihave Hst := (tcSt_split (F := F) d 0) $$ Hst
  icases Hst with ⟨HO, Hst⟩
  rw [wp_bind]
  iapply (first_wp m d _) $$ [Hst Hb Hheld Hts HO Hg0 Ht0 Hg1 Ht1]
  isplitl [Hst Hts Hg1 Ht1]
  swap
  · isplitl [Hb]; · iexact Hb
    isplitl [Hheld HO]
    · isplitl [Hheld] <;> iassumption
    isplitr; · iexact Hlev
    isplitl [Hg0] <;> iassumption
  iintro ⟨Hb, Hheld, HO⟩
  ihave Hst := Hst $$ HO
  iapply (StableHlo.wp_seq 𝒱 none Set.univ d Su _ pre (fun op h => Pipeline.sub_ucRefs op (List.forall_iff_forall_mem.1 pre_sub op h))
    (List.forall_iff_forall_mem.1 pre_fresh) (VA m d)) $$ [Hb Hheld]
  · isplitl [Hb] <;> iassumption
  iintro ⟨Hb, Hheld⟩
  rw [show after pre (VA m d) = V1 m d from rfl]
  ihave Hh := (Entails.of_eq (held_V1 (F := F) m d)) $$ Hheld
  icases Hh with ⟨Hw, Hrest⟩
  rw [wp_bind]
  iapply ((K (F := F)).wp_run (D (F := F)) 𝒱 (EH := EH) (P := P m) κ d 0) $$ [Hst Hw Hb Hrest Hts Hg1 Ht1]
  isplitr; · iexact Hctx
  isplitl [Hst]; · iexact Hst
  isplitl [Hw]
  · rw [st_eq]; iexact Hw
  iintro ⟨Hst, Hdn⟩
  ihave Hw := (Entails.of_eq (dn_eq m d)) $$ Hdn
  ihave Hheld := (Entails.of_eq (held_V2 (F := F) m d).symm) $$ [Hw Hrest]
  · isplitl [Hw] <;> iassumption
  iapply (StableHlo.wp_seq 𝒱 none Set.univ d Su _ post (fun op h => Pipeline.sub_ucRefs op (List.forall_iff_forall_mem.1 post_sub op h))
    (List.forall_iff_forall_mem.1 post_fresh) (V2 m d)) $$ [Hb Hheld]
  · isplitl [Hb] <;> iassumption
  iintro ⟨Hb, Hheld⟩
  rw [show after post (V2 m d) = V3 m d from rfl]
  ihave Hst := (show ((K (F := F)).tcSt EH d ((0 : Fin 1).val + 1) : sProp 𝕄)
      ⊢ iprop(owesNow (F := F) d 1 ∗ (owesNow (F := F) d 1 -∗ (K (F := F)).tcSt EH d 1)) from tcSt_split d 1) $$ Hst
  icases Hst with ⟨HO, Hst⟩
  rw [wp_bind]
  iapply (last_wp m d _) $$ [Hst Hb Hheld Hts HO Hg1 Ht1]
  isplitl [Hst Hts]
  swap
  · isplitl [Hb]; · iexact Hb
    isplitl [Hheld HO]
    · isplitl [Hheld] <;> iassumption
    isplitr; · iexact Hlev
    isplitl [Hg1] <;> iassumption
  iintro ⟨Hb, Hheld, HO⟩
  ihave Hst := Hst $$ HO
  rw [wp_pure]; imodintro
  isplitl [Hst]; · iexact Hst
  isplitl [Hheld]; · iexact Hheld
  isplitl [Hb] <;> iassumption

def fq (d : Dev nD) (s' : Phys nD τ sig (Elt F)) : Prop := ∀ b ∈ Su, s'.mem.mem (d, b) = V4 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) Su) $$ [HSI H]
  · isplitl [HSI]; · iexact HSI
    iexact H
  ipureintro
  exact h

/-! ## The program's run -/

def QC : PUnit × MemSt nD τ sig (Elt F) → Prop := fun r => (∀ c : Dev nD, ∀ b ∈ Su, r.2.mem (c, b) = V4 m c b) ∧ r.2.sem = fun _ => 0

theorem run_all [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghosts (F := F) d) (FIN m) (u₀ (F := F)) (sep_elim_left.trans (hu₀ m)) (hmain m ρ) (fq m) (hfin m) (QC m) (fun _ h hz => ⟨h, hz⟩)

end Cert.Gathering

end
-- ==== Proof.GatherValue.lean ====
/-
  The values of the whole program, element by element: the table and the row numbers of the SparseCore call (`tab_apply1`,
  `tab_apply2`, `word_apply`), its rows (`rows0_apply`, `rows1_apply`), the last call's operands as the host makes them, and the
  arguments, which nothing writes.
-/
module

public import proofs.«01_k».proof.Proof.GatherLaunch
public import Idealize.ShloMosaic.Lib.StableHlo.ReadAt

@[expose] public section

noncomputable section

namespace Cert.Gathering

open Cert.KernelIdeal Cert.KernelIdeal.Gen
open Idealize.ShloMosaic Idealize.ShloMosaic.StableHlo

variable {F : FTy → Type} [FloatOps F]
variable (m : (ℓ : Loc nD τ sig) → Buf (Elt F) ℓ)

abbrev ref (b : Ref sig .tc) : DevRef τ sig := Proc.devRef .tc b

/-! ## What nothing writes -/

abbrev kit0 : Pipeline.PLaunchFacts (nD := nD) (τ := τ) (pcfgs (F := F)) 0 := launch0.toP
abbrev kit2 : Pipeline.PLaunchFacts (nD := nD) (τ := τ) (pcfgs (F := F)) 1 := launch2.toP

theorem V4_keeps (d : Dev nD) (r : Ref sig .tc) (h : ∀ w, Pipeline.arrRef cfg2.spec w = r → (cfg2.win w).isOut = false) :
    V4 m d (ref r) = V3 m d (ref r) := Pipeline.afterRegion_keeps (datB (V3 m) d) (V3 m d) (kit2 (F := F)).win.arr_inj (fun _ => rfl) r h
theorem VA_keeps (d : Dev nD) (r : Ref sig .tc) (h : ∀ w, Pipeline.arrRef cfg0.spec w = r → (cfg0.win w).isOut = false) :
    VA m d (ref r) = V0 m d (ref r) := Pipeline.afterRegion_keeps (datA (V0 m) d) (V0 m d) (kit0 (F := F)).win.arr_inj (fun _ => rfl) r h
theorem V2_of_ne (d : Dev nD) (b : DevRef τ sig) (h : b ≠ oRef) : V2 m d b = V1 m d b := Function.update_of_ne h _ _
theorem V2_o (d : Dev nD) : V2 m d oRef = goal (tab m d) (src m d) := Function.update_self _ _ _

abbrev a0 (d : Dev nD) : S10000x128.Idx → Elt F .f32 := m (d, ref main_arg0)
abbrev a1 (d : Dev nD) : S2x320000.Idx → Elt F .i32 := m (d, ref main_arg1)
abbrev a2 (d : Dev nD) : S128x128.Idx → Elt F .f32 := m (d, ref main_arg2)
abbrev a3 (d : Dev nD) : S128.Idx → Elt F .f32 := m (d, ref main_arg3)
abbrev a4 (d : Dev nD) : S128x128.Idx → Elt F .f32 := m (d, ref main_arg4)
abbrev a5 (d : Dev nD) : S128.Idx → Elt F .f32 := m (d, ref main_arg5)

theorem arg0_A (d : Dev nD) : VA m d (ref main_arg0) = a0 m d := VA_keeps m d main_arg0 (by decide)
theorem arg0_3 (d : Dev nD) : V3 m d (ref main_arg0) = a0 m d :=
  (show V3 m d (ref main_arg0) = V2 m d (ref main_arg0) from rfl).trans ((V2_of_ne m d _ (by decide)).trans
    ((show V1 m d (ref main_arg0) = VA m d (ref main_arg0) from rfl).trans (arg0_A m d)))
theorem arg0_eq (d : Dev nD) : V4 m d (ref main_arg0) = a0 m d := (V4_keeps m d main_arg0 (by decide)).trans (arg0_3 m d)
theorem arg1_A (d : Dev nD) : VA m d (ref main_arg1) = a1 m d := VA_keeps m d main_arg1 (by decide)
theorem arg1_3 (d : Dev nD) : V3 m d (ref main_arg1) = a1 m d :=
  (show V3 m d (ref main_arg1) = V2 m d (ref main_arg1) from rfl).trans ((V2_of_ne m d _ (by decide)).trans
    ((show V1 m d (ref main_arg1) = VA m d (ref main_arg1) from rfl).trans (arg1_A m d)))
theorem arg1_eq (d : Dev nD) : V4 m d (ref main_arg1) = a1 m d := (V4_keeps m d main_arg1 (by decide)).trans (arg1_3 m d)
theorem arg2_A (d : Dev nD) : VA m d (ref main_arg2) = a2 m d := VA_keeps m d main_arg2 (by decide)
theorem arg2_3 (d : Dev nD) : V3 m d (ref main_arg2) = a2 m d :=
  (show V3 m d (ref main_arg2) = V2 m d (ref main_arg2) from rfl).trans ((V2_of_ne m d _ (by decide)).trans
    ((show V1 m d (ref main_arg2) = VA m d (ref main_arg2) from rfl).trans (arg2_A m d)))
theorem arg2_eq (d : Dev nD) : V4 m d (ref main_arg2) = a2 m d := (V4_keeps m d main_arg2 (by decide)).trans (arg2_3 m d)
theorem arg3_A (d : Dev nD) : VA m d (ref main_arg3) = a3 m d := VA_keeps m d main_arg3 (by decide)
theorem arg3_3 (d : Dev nD) : V3 m d (ref main_arg3) = a3 m d :=
  (show V3 m d (ref main_arg3) = V2 m d (ref main_arg3) from rfl).trans ((V2_of_ne m d _ (by decide)).trans
    ((show V1 m d (ref main_arg3) = VA m d (ref main_arg3) from rfl).trans (arg3_A m d)))
theorem arg3_eq (d : Dev nD) : V4 m d (ref main_arg3) = a3 m d := (V4_keeps m d main_arg3 (by decide)).trans (arg3_3 m d)
theorem arg4_A (d : Dev nD) : VA m d (ref main_arg4) = a4 m d := VA_keeps m d main_arg4 (by decide)
theorem arg4_3 (d : Dev nD) : V3 m d (ref main_arg4) = a4 m d :=
  (show V3 m d (ref main_arg4) = V2 m d (ref main_arg4) from rfl).trans ((V2_of_ne m d _ (by decide)).trans
    ((show V1 m d (ref main_arg4) = VA m d (ref main_arg4) from rfl).trans (arg4_A m d)))
theorem arg4_eq (d : Dev nD) : V4 m d (ref main_arg4) = a4 m d := (V4_keeps m d main_arg4 (by decide)).trans (arg4_3 m d)
theorem arg5_A (d : Dev nD) : VA m d (ref main_arg5) = a5 m d := VA_keeps m d main_arg5 (by decide)
theorem arg5_3 (d : Dev nD) : V3 m d (ref main_arg5) = a5 m d :=
  (show V3 m d (ref main_arg5) = V2 m d (ref main_arg5) from rfl).trans ((V2_of_ne m d _ (by decide)).trans
    ((show V1 m d (ref main_arg5) = VA m d (ref main_arg5) from rfl).trans (arg5_A m d)))
theorem arg5_eq (d : Dev nD) : V4 m d (ref main_arg5) = a5 m d := (V4_keeps m d main_arg5 (by decide)).trans (arg5_3 m d)

/-! ## The host's operations -/

/-- The first call's two results: the logarithms and the flags. -/
abbrev lg (d : Dev nD) : S10000x128.Idx → Elt F .f32 := VA m d (ref main_v0_0)
abbrev fl (d : Dev nD) : S10000x128.Idx → Elt F .f32 := VA m d (ref main_v0_1)

/-- A chunk of zero rows. -/
abbrev zrows : S112x128.Idx → Elt F .f32 := broadcastInDim S112x128 ![] bcast_S_S112x128 (constant S_ .f32 0x00000000#32)

theorem tab_eq (d : Dev nD) : tab m d = concatenate S20224x128 0 [⟨S10000x128, lg m d⟩, ⟨S112x128, zrows⟩, ⟨S10000x128, fl m d⟩, ⟨S112x128, zrows⟩]
    concatenates_S10000x128_S112x128_S10000x128_S112x128_S20224x128_d0 := rfl

/-- A line of row numbers with the padding. -/
abbrev pad (x : S320000.Idx → BitVec 32) : S327680.Idx → BitVec 32 :=
  concatenate S327680 0 [⟨S320000, x⟩, ⟨S7680, broadcastInDim S7680 ![] bcast_S_S7680 (constantI S_ 32 10000#32)⟩]
    concatenates_S320000_S7680_S327680_d0
/-- The edges' first row, padded; their second row, padded. -/
abbrev firsts (e : S2x320000.Idx → BitVec 32) : S327680.Idx → BitVec 32 :=
  pad (shapeCast S320000 (extractStridedSlice S1x320000 ![0, 0] e slices_S2x320000_S1x320000_0_0) shapeCasts_S1x320000_S320000)
abbrev seconds (e : S2x320000.Idx → BitVec 32) : S327680.Idx → BitVec 32 :=
  pad (shapeCast S320000 (extractStridedSlice S1x320000 ![1, 0] e slices_S2x320000_S1x320000_1_0) shapeCasts_S1x320000_S320000)
abbrev padded (d : Dev nD) : S327680.Idx → Elt F .i32 := firsts (a1 m d)
abbrev targets (d : Dev nD) : S327680.Idx → Elt F .i32 := seconds (a1 m d)

theorem pre13 (W : Valuation τ sig (Elt F)) : after pre W (ref main_v13) = shapeCast S320x16x128
    (concatenate S655360 0 [⟨S327680, firsts (W (ref main_arg1))⟩,
        ⟨S327680, addi (firsts (W (ref main_arg1))) (broadcastInDim S327680 ![] bcast_S_S327680 (constantI S_ 32 10112#32))⟩]
      concatenates_S327680_S327680_S655360_d0) shapeCasts_S655360_S320x16x128 := by
  unfold pre ref
  after_reads_simp
  rfl
theorem pre14 (W : Valuation τ sig (Elt F)) : after pre W (ref main_v14)
    = shapeCast S160x16x128 (seconds (W (ref main_arg1))) shapeCasts_S327680_S160x16x128 := by
  unfold pre ref
  after_reads_simp
  rfl

theorem src_eq (d : Dev nD) : src m d = shapeCast S320x16x128
    (concatenate S655360 0 [⟨S327680, padded m d⟩, ⟨S327680, addi (padded m d) (broadcastInDim S327680 ![] bcast_S_S327680 (constantI S_ 32 10112#32))⟩]
      concatenates_S327680_S327680_S655360_d0) shapeCasts_S655360_S320x16x128 :=
  (pre13 (VA m d)).trans (by rw [arg1_A])

/-- The target rows as the SparseCore call's host part reads them: a block of lines. -/
theorem lines_eq (d : Dev nD) : V2 m d (ref main_v14) = shapeCast S160x16x128 (targets m d) shapeCasts_S327680_S160x16x128 :=
  (V2_of_ne m d _ (by decide)).trans ((pre14 (VA m d)).trans (by rw [arg1_A]))

theorem zeros_eq (d : Dev nD) : V2 m d (ref main_v15) = broadcastInDim S10112x128 ![] bcast_S_S10112x128 (constant S_ .f32 0x00000000#32) := by
  rw [V2_of_ne m d _ (by decide)]
  unfold V1 pre ref
  after_reads_simp

/-- The column of row numbers at which the host adds: a negative one counted from the end. -/
def col (x : S160x16x128.Idx → BitVec 32) : S327680x1.Idx → BitVec 32 :=
  broadcastInDim S327680x1 ![0] bcast_S327680_S327680x1_0
    (select (cmpi .slt (shapeCast S327680 x shapeCasts_S160x16x128_S327680) (broadcastInDim S327680 ![] bcast_S_S327680 (constantI S_ 32 0#32)))
      (addi (shapeCast S327680 x shapeCasts_S160x16x128_S327680) (broadcastInDim S327680 ![] bcast_S_S327680 (constantI S_ 32 10112#32)))
      (shapeCast S327680 x shapeCasts_S160x16x128_S327680))

/-- One half's sums. -/
def sumsOf (z : S10112x128.Idx → F .f32) (x : S160x16x128.Idx → BitVec 32) (u : S327680x128.Idx → F .f32) : S10112x128.Idx → F .f32 :=
  Host.scatterAdd scatter_S10112x128_S327680x1_S327680x128_1_0_0_1 z (col x) u

/-- Both halves, one below the other. -/
def sums (z : S10112x128.Idx → F .f32) (x : S160x16x128.Idx → BitVec 32) (o : S655360x128.Idx → F .f32) : S20224x128.Idx → F .f32 :=
  concatenate S20224x128 0
    [⟨S10112x128, sumsOf z x (extractStridedSlice S327680x128 ![0, 0] o slices_S655360x128_S327680x128_0_0)⟩,
      ⟨S10112x128, sumsOf z x (extractStridedSlice S327680x128 ![327680, 0] o slices_S655360x128_S327680x128_327680_0)⟩]
    concatenates_S10112x128_S10112x128_S20224x128_d0

theorem post35 (W : Valuation τ sig (Elt F)) : after post W (ref main_v35)
    = extractStridedSlice S10000x128 ![0, 0] (sums (W (ref main_v15)) (W (ref main_v14)) (W oRef)) slices_S20224x128_S10000x128_0_0 := by
  unfold post ref
  after_reads_simp
  rfl
theorem post36 (W : Valuation τ sig (Elt F)) : after post W (ref main_v36)
    = extractStridedSlice S10000x128 ![10112, 0] (sums (W (ref main_v15)) (W (ref main_v14)) (W oRef)) slices_S20224x128_S10000x128_10112_0 := by
  unfold post ref
  after_reads_simp
  rfl
theorem post37 (W : Valuation τ sig (Elt F)) : after post W (ref main_v37)
    = transpose S128x128 [1, 0] (W (ref main_arg2)) transposes_S128x128_S128x128_1_0 := by
  unfold post ref
  after_reads_simp
theorem post38 (W : Valuation τ sig (Elt F)) : after post W (ref main_v38)
    = transpose S128x128 [1, 0] (W (ref main_arg4)) transposes_S128x128_S128x128_1_0 := by
  unfold post ref
  after_reads_simp
theorem post39 (W : Valuation τ sig (Elt F)) : after post W (ref main_v39)
    = shapeCast S1x128 (W (ref main_arg3)) shapeCasts_S128_S1x128 := by
  unfold post ref
  after_reads_simp
  rfl
theorem post40 (W : Valuation τ sig (Elt F)) : after post W (ref main_v40)
    = shapeCast S1x128 (W (ref main_arg5)) shapeCasts_S128_S1x128 := by
  unfold post ref
  after_reads_simp
  rfl

/-! ## Element by element -/

theorem tab_apply1 (d : Dev nD) (r : Fin 20224) (c : Fin 128) (h : r.val < 10000) : tab m d (ix2 r c) = lg m d (ix2 ⟨r.val, h⟩ c) := by
  rw [tab_eq]
  pointwise
  rw [dif_pos h]

theorem tab_apply2 (d : Dev nD) (r : Fin 20224) (c : Fin 128) (k : Fin 10000) (h : r.val = k.val + 10112) :
    tab m d (ix2 r c) = fl m d (ix2 k c) := by
  have hk := k.isLt
  rw [tab_eq]
  pointwise
  rw [dif_neg (by omega), dif_neg (by omega), dif_pos (by omega)]
  exact congrArg (fun z => fl m d (ix2 z c)) (Fin.ext (show r.val - 10000 - 112 = k.val by omega))

theorem padded_apply (d : Dev nD) (r : Fin 327680) : padded m d (ix1 r) = if h : r.val < 320000 then a1 m d (ix2 0 ⟨r.val, h⟩) else 10000#32 := by
  pointwise

theorem targets_apply (d : Dev nD) (r : Fin 327680) : targets m d (ix1 r) = if h : r.val < 320000 then a1 m d (ix2 1 ⟨r.val, h⟩) else 10000#32 := by
  pointwise

theorem word_apply (d : Dev nD) (r : Fin 655360) : wordAt (src m d) r
    = if h : r.val < 327680 then padded m d (ix1 ⟨r.val, h⟩) else padded m d (ix1 ⟨r.val - 327680, by omega⟩) + 10112#32 := by
  unfold wordAt
  rw [src_eq]
  generalize padded m d = x
  pointwise
  have e : r.val / 2048 * 2048 + r.val / 128 % 16 * 128 + r.val % 128 = r.val := by omega
  simp only [e, IntOp.addi]

/-- The edges' row numbers are rows of the table. -/
def InRange : Prop := ∀ (d : Dev nD) (y : S2x320000.Idx), BitVec.toNat (a1 m d y) < 10000

variable {m} in
theorem preOK (h : InRange m) : PreOK m := by
  intro d y
  have hy0 : (y 0).val < 320 := (y 0).isLt
  have hy1 : (y 1).val < 16 := (y 1).isLt
  have hy2 : (y 2).val < 128 := (y 2).isLt
  have e : src m d y = wordAt (src m d) ⟨(y 0).val * 2048 + (y 1).val * 128 + (y 2).val, by omega⟩ := by
    unfold wordAt
    refine congrArg (src m d) (funext fun a => ?_)
    match a with
    | 0 => exact Fin.ext (show (y 0).val = ((y 0).val * 2048 + (y 1).val * 128 + (y 2).val) / 2048 by omega)
    | 1 => exact Fin.ext (show (y 1).val = ((y 0).val * 2048 + (y 1).val * 128 + (y 2).val) / 128 % 16 by omega)
    | 2 => exact Fin.ext (show (y 2).val = ((y 0).val * 2048 + (y 1).val * 128 + (y 2).val) % 128 by omega)
  have hp : ∀ r, BitVec.toNat (padded m d (ix1 r)) ≤ 10000 := by
    intro r
    rw [padded_apply]
    split
    · exact (h d _).le
    · decide
  rw [e, word_apply]
  split
  · exact lt_of_le_of_lt (hp _) (by decide)
  · rw [BitVec.toNat_add]
    exact lt_of_le_of_lt (Nat.mod_le _ _) (lt_of_le_of_lt (Nat.add_le_add_right (hp _) _) (by decide))

variable {m} in
/-- Row `r` of the first half of the call's result is the logarithms' row that edge `r` starts from, of the second half the flags'. -/
theorem rows0_apply (h : InRange m) (d : Dev nD) (r : Fin 320000) (c : Fin 128) : goal (tab m d) (src m d) (ix2 ⟨r.val, by omega⟩ c)
    = lg m d (ix2 ⟨BitVec.toNat (a1 m d (ix2 0 r)), h d _⟩ c) := by
  have hr := r.isLt
  have hw : wordAt (src m d) ⟨r.val, by omega⟩ = a1 m d (ix2 0 r) := by
    rw [word_apply, dif_pos (show r.val < 327680 by omega), padded_apply, dif_pos hr]
  have hn := h d (ix2 0 r)
  show tab m d (ix2 ⟨(wordAt (src m d) ⟨r.val, _⟩).toNat % 20224, _⟩ c) = _
  simp only [hw]
  rw [tab_apply1 m d _ c (by show BitVec.toNat (a1 m d (ix2 0 r)) % 20224 < 10000; omega)]
  exact congrArg (fun z => lg m d (ix2 z c)) (Fin.ext (show BitVec.toNat (a1 m d (ix2 0 r)) % 20224 = BitVec.toNat (a1 m d (ix2 0 r)) by omega))

variable {m} in
theorem rows1_apply (h : InRange m) (d : Dev nD) (r : Fin 320000) (c : Fin 128) : goal (tab m d) (src m d) (ix2 ⟨327680 + r.val, by omega⟩ c)
    = fl m d (ix2 ⟨BitVec.toNat (a1 m d (ix2 0 r)), h d _⟩ c) := by
  have hr := r.isLt
  have hn := h d (ix2 0 r)
  have hw : (wordAt (src m d) ⟨327680 + r.val, by omega⟩).toNat = BitVec.toNat (a1 m d (ix2 0 r)) + 10112 := by
    rw [word_apply, dif_neg (show ¬327680 + r.val < 327680 by omega)]
    simp only [Nat.add_sub_cancel_left]
    rw [padded_apply, dif_pos hr, BitVec.toNat_add]
    show (BitVec.toNat (a1 m d (ix2 0 r)) + 10112) % 4294967296 = _
    omega
  show tab m d (ix2 ⟨(wordAt (src m d) ⟨327680 + r.val, _⟩).toNat % 20224, _⟩ c) = _
  simp only [hw]
  exact tab_apply2 m d _ c ⟨BitVec.toNat (a1 m d (ix2 0 r)), hn⟩ (show (BitVec.toNat (a1 m d (ix2 0 r)) + 10112) % 20224 = BitVec.toNat (a1 m d (ix2 0 r)) + 10112 by omega)

end Cert.Gathering

end
-- ==== Proof.Product.lean ====
/-
  Over the extended reals a product is rebuilt from the logarithms of its factors' absolute values and the number of its
  negative factors: `prod_eq`. A zero factor has the logarithm `⊥`, which makes the sum `⊥` and its exponential `0`; an
  infinite factor has the logarithm `⊤`.

  And what the host's accumulating scatter of rows adds up: `sum_landing`.
-/
module

public import proofs.«01_k».proof.Proof.Combine
public import Idealize.ShloMosaic.Lib.Routing.OpsPair

@[expose] public section

noncomputable section

open Idealize.ShloMosaic
open scoped BigOperators

namespace Cert.Product

open Cert.CombineIdeal.Sums (sign)

/-! ## Exponentials and logarithms -/

theorem exp_add (a b : EReal) : Ideal.exp (a + b) = Ideal.exp a * Ideal.exp b := by
  induction a with
  | bot => rw [EReal.bot_add]; exact (zero_mul _).symm
  | top =>
    induction b with
    | bot => rw [EReal.add_bot]; exact (mul_zero _).symm
    | top => exact EReal.top_mul_top.symm
    | coe s =>
      rw [EReal.top_add_coe]
      exact (EReal.top_mul_coe_of_pos (Real.exp_pos s)).symm
  | coe r =>
    induction b with
    | bot => rw [EReal.add_bot]; exact (mul_zero _).symm
    | top =>
      rw [EReal.coe_add_top]
      exact (EReal.coe_mul_top_of_pos (Real.exp_pos r)).symm
    | coe s =>
      show ((Real.exp (r + s) : ℝ) : EReal) = ((Real.exp r : ℝ) : EReal) * ((Real.exp s : ℝ) : EReal)
      rw [Real.exp_add, EReal.coe_mul]

theorem exp_log (a : EReal) (h : 0 ≤ a) : Ideal.exp (Ideal.log a) = a := by
  induction a with
  | bot => exact absurd h (by simp)
  | top => rfl
  | coe r =>
    have h : 0 ≤ r := by exact_mod_cast h
    show Ideal.exp (if r ≤ 0 then ⊥ else (Real.log r : EReal)) = r
    split
    · rename_i h'
      obtain rfl : r = 0 := le_antisymm h' h
      rfl
    · rename_i h'
      show ((Real.exp (Real.log r) : ℝ) : EReal) = r
      rw [Real.exp_log (not_le.1 h')]

/-- A number by its absolute value. -/
theorem abs_cases (a : EReal) : a = (if a < 0 then -1 else 1) * max a (-a) := by
  split
  · rename_i h
    rw [max_eq_right (h.le.trans (EReal.neg_nonneg.2 h.le)), neg_mul, one_mul, neg_neg]
  · rename_i h
    have h := not_lt.1 h
    rw [max_eq_left ((EReal.neg_le_neg_iff.2 h).trans (by simpa using h)), one_mul]

theorem abs_nonneg (a : EReal) : 0 ≤ max a (-a) := by
  rcases le_total 0 a with h | h
  · exact le_max_of_le_left h
  · exact le_max_of_le_right (EReal.neg_nonneg.2 h)

/-! ## The sign of a count -/

theorem sign_nat (n : ℕ) : sign ((n : ℝ) : EReal) = (-1) ^ n := by
  have e : sign ((n : ℝ) : EReal) = ((1 - 2 * ((n : ℝ) - 2 * (⌊(n : ℝ) * (1 / 2)⌋ : ℝ)) : ℝ) : EReal) := by
    unfold sign
    rw [Ideal.ofBits_one_f32, CombineReferenceIdeal.Formula.two_eq, CombineReferenceIdeal.Formula.half_eq, ← EReal.coe_mul, Ideal.liftRound_coe,
      ← EReal.coe_mul, ← EReal.coe_sub, ← EReal.coe_mul, ← EReal.coe_one, ← EReal.coe_sub]
  have hf : ⌊(n : ℝ) * (1 / 2)⌋ = ((n / 2 : ℕ) : ℤ) := by
    rw [Int.floor_eq_iff]
    have h1 : (n : ℝ) = 2 * ((n / 2 : ℕ) : ℝ) + ((n % 2 : ℕ) : ℝ) := by exact_mod_cast (Nat.div_add_mod n 2).symm
    have h2 : ((n % 2 : ℕ) : ℝ) < 2 := by exact_mod_cast Nat.mod_lt n two_pos
    have h3 : (0 : ℝ) ≤ ((n % 2 : ℕ) : ℝ) := Nat.cast_nonneg _
    rw [Int.cast_natCast]
    constructor <;> linarith
  have hn : (n : ℝ) - 2 * ((n / 2 : ℕ) : ℝ) = ((n % 2 : ℕ) : ℝ) := by
    have h1 : (n : ℝ) = 2 * ((n / 2 : ℕ) : ℝ) + ((n % 2 : ℕ) : ℝ) := by exact_mod_cast (Nat.div_add_mod n 2).symm
    linarith
  rw [e, hf, Int.cast_natCast, hn]
  rcases Nat.even_or_odd n with h | h
  · rw [Nat.even_iff.1 h, h.neg_one_pow]
    norm_num
  · rw [Nat.odd_iff.1 h, h.neg_one_pow]
    norm_num

/-! ## The product -/

variable {ι : Type}

theorem exp_sum_log (S : Finset ι) (x : ι → EReal) : Ideal.exp (∑ e ∈ S, Ideal.log (max (x e) (-x e))) = ∏ e ∈ S, max (x e) (-x e) := by
  classical
  induction S using Finset.induction_on with
  | empty =>
    rw [Finset.sum_empty, Finset.prod_empty]
    show ((Real.exp 0 : ℝ) : EReal) = 1
    rw [Real.exp_zero, EReal.coe_one]
  | insert a S ha ih => rw [Finset.sum_insert ha, Finset.prod_insert ha, exp_add, ih, exp_log _ (abs_nonneg _)]

theorem sum_flags (S : Finset ι) (x : ι → EReal) : (∑ e ∈ S, if x e < 0 then (1 : EReal) else 0) = (((S.filter fun e => x e < 0).card : ℝ) : EReal) := by
  classical
  induction S using Finset.induction_on with
  | empty => simp
  | insert a S ha ih =>
    rw [Finset.sum_insert ha, ih, Finset.filter_insert]
    split
    · rw [Finset.card_insert_of_notMem (fun h => ha (Finset.mem_filter.1 h).1), Nat.cast_add, Nat.cast_one, EReal.coe_add, EReal.coe_one, add_comm]
    · rw [zero_add]

theorem prod_signs (S : Finset ι) (x : ι → EReal) : (∏ e ∈ S, if x e < 0 then (-1 : EReal) else 1) = (-1) ^ (S.filter fun e => x e < 0).card := by
  rw [Finset.prod_ite, Finset.prod_const, Finset.prod_const_one, mul_one]

/-- The product of some extended reals: the sign by the number of negative ones, times the exponential of the sum of the
    logarithms of their absolute values. -/
theorem prod_eq (S : Finset ι) (x : ι → EReal) :
    sign (∑ e ∈ S, if x e < 0 then (1 : EReal) else 0) * Ideal.exp (∑ e ∈ S, Ideal.log (max (x e) (-x e))) = ∏ e ∈ S, x e := by
  rw [sum_flags, sign_nat, exp_sum_log, ← prod_signs, ← Finset.prod_mul_distrib]
  exact Finset.prod_congr rfl fun e _ => (abs_cases (x e)).symm

/-! ## Where the rows of an accumulating scatter land -/

open Idealize.ShloMosaic.Routing

variable {R C N w : Nat}

/-- Element `(e, c')` of the added rows lands at `(r, c)` exactly when row `e`'s word, read signed, is `r` and `c'` is `c`. -/
theorem lands_rows (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) w) (e : Fin N) (c' : Fin C) (r : Fin R) (c : Fin C) :
    d.resultIdx? (ix2 e c') idx = some (ix2 r c) ↔ (idx (ix2 e 0)).toInt = (r.val : Int) ∧ c' = c := by
  obtain ⟨uw, iw, sd, ivd, wf⟩ := d
  dsimp only at huw hiw hsd hivd
  subst huw hiw hsd hivd
  have hwin0 : ScatterDims.window ⟨[1], [0], [0], 1, wf⟩ (ix2 e c') 0 = 0 := by
    unfold ScatterDims.window
    rw [dif_neg fun h => (of_decide_eq_true (List.mem_filter.1 h).2) (List.mem_singleton.2 rfl)]
  have hwin1 : ScatterDims.window ⟨[1], [0], [0], 1, wf⟩ (ix2 e c') 1 = c'.val := rfl
  have hstart1 : ScatterDims.start ⟨[1], [0], [0], 1, wf⟩ (ix2 e c') idx 1 = 0 := by
    unfold ScatterDims.start
    rw [dif_neg fun h => absurd (List.mem_singleton.1 h) (by decide : (1 : Fin 2) ≠ 0)]
  have hstart0 : ScatterDims.start ⟨[1], [0], [0], 1, wf⟩ (ix2 e c') idx 0 = (idx (ix2 e 0)).toInt := by
    unfold ScatterDims.start
    rw [dif_pos (List.mem_singleton.2 rfl)]
    refine congrArg (fun z => (idx z).toInt) (funext fun b => ?_)
    match b with
    | ⟨0, _⟩ => rfl
    | ⟨1, _⟩ => exact Subsingleton.elim (α := Fin 1) _ _
  refine (resultIdx?_ix2 _ _ idx r c).trans ?_
  rw [hstart0, hwin0, hstart1, hwin1, Fin.ext_iff]
  omega

/-- So the scatter adds, at `(r, c)`, column `c` of the rows whose word is `r`. -/
theorem sum_landing (d : ScatterDims (shape2 R C) (shape2 N 1) (shape2 N C)) (huw : d.updateWindowDims = [1]) (hiw : d.insertedWindowDims = [0])
    (hsd : d.scatterDimsToOperandDims = [0]) (hivd : d.indexVectorDim = 1) (z : (shape2 R C).Idx → EReal) (idx : IVec (shape2 N 1) w)
    (u : (shape2 N C).Idx → EReal) (r : Fin R) (c : Fin C) :
    Ideal.hostScatterAdd d z idx u (ix2 r c)
      = z (ix2 r c) + ∑ e ∈ Finset.univ.filter (fun e : Fin N => (idx (ix2 e 0)).toInt = (r.val : Int)), u (ix2 e c) := by
  unfold Ideal.hostScatterAdd
  congr 1
  symm
  refine Finset.sum_bij' (fun e _ => ix2 e c) (fun j _ => j 0) ?_ ?_ ?_ ?_ ?_
  · intro e he
    exact Finset.mem_filter.2 ⟨Finset.mem_univ _, (lands_rows d huw hiw hsd hivd idx e c r c).2 ⟨(Finset.mem_filter.1 he).2, rfl⟩⟩
  · intro j hj
    obtain ⟨a, b, rfl⟩ : ∃ a b, j = ix2 a b := ⟨j 0, j 1, ValueIdx.eq_ix2 j⟩
    exact Finset.mem_filter.2 ⟨Finset.mem_univ _, ((lands_rows d huw hiw hsd hivd idx a b r c).1 (Finset.mem_filter.1 hj).2).1⟩
  · intro e _
    rfl
  · intro j hj
    obtain ⟨a, b, rfl⟩ : ∃ a b, j = ix2 a b := ⟨j 0, j 1, ValueIdx.eq_ix2 j⟩
    obtain rfl := ((lands_rows d huw hiw hsd hivd idx a b r c).1 (Finset.mem_filter.1 hj).2).2
    rfl
  · intro e _
    rfl

end Cert.Product

end
-- ==== Proof.KernelResult.lean ====
/-
  The program's result, element by element over the extended reals: the first call's logarithms and flags, the sums of their
  rows over the edges, and the last call's product of the two biased products. The sums' part is the product of the rows.
-/
module

public import proofs.«01_k».proof.Proof.GatherValue
public import proofs.«01_k».proof.Proof.Product
public import Idealize.ShloMosaic.Lib.Pointwise
public import Idealize.ShloMosaic.Lib.ValueIdx

@[expose] public section

noncomputable section

namespace Cert.Gathering

open Cert.KernelIdeal Cert.KernelIdeal.Gen
open Idealize.ShloMosaic Idealize.ShloMosaic.TcCoe
open Cert.CombineIdeal.Sums (cell read_rows read_fixed)
open scoped BigOperators

variable (m : (ℓ : Loc nD τ sig) → Buf (Elt Ideal) ℓ) (d : Dev nD)

/-! ## The first call's two results -/

theorem row_index0 (t : Fin cfg0.N) :
    win0_0.index t 0 = t.val ∧ win0_0.index t 1 = 0 ∧ win0_1.index t 0 = t.val ∧ win0_1.index t 1 = 0
    ∧ win0_2.index t 0 = t.val ∧ win0_2.index t 1 = 0 := by
  revert t
  decide +kernel

theorem point_lt0 (t : Fin cfg0.N) : t.val < 10 := t.isLt

/-- The logarithms and the flags as arrays. -/
def logs : S10000x128.Idx → EReal := fun j => Ideal.log (max (a0 m d j) (-(a0 m d j)))
def flags : S10000x128.Idx → EReal := fun j => if a0 m d j < 0 then 1 else 0

theorem pay1_apply (v : Vec Ideal S1000x128 .f32) (j : S1000x128.Idx) : k0_pay1 v j = Ideal.log (max (v j : EReal) (-(v j : EReal))) := rfl

theorem pay2_apply (v : Vec Ideal S1000x128 .f32) (j : S1000x128.Idx) : (k0_pay2 v j : EReal) = if (v j : EReal) < 0 then 1 else 0 := by
  obtain ⟨a, b, rfl⟩ : ∃ (a : Fin 1000) (b : Fin 128), j = ix2 a b := ⟨j 0, j 1, ValueIdx.eq_ix2 j⟩
  pointwise [k0_pay2]
  by_cases h : (v (ix2 a b) : EReal) < 0
  · simp only [h, if_true]
    show (((1#32 : BitVec 32).toInt : ℝ) : EReal) = 1
    simp
  · simp only [h, if_false]
    show (((0#32 : BitVec 32).toInt : ℝ) : EReal) = 0
    simp

/-- The argument's block at a point, at the row the block starts at. -/
theorem blkA_apply (t : Fin cfg0.N) (r : Fin 1000) (k : Fin 128) (R : Fin 10000) (hR : R.val = 1000 * t.val + r.val) :
    (blkA (V0 m) d 0 t : S1000x128.Idx → EReal) (ix2 r k) = a0 m d (ix2 R k) := by
  obtain ⟨h0, h1, -⟩ := row_index0 t
  exact read_rows (a0 m d) _ _ r k R hR (congrArg (· * 1000 + 1 * r.val) h0) (congrArg (· * 128 + 1 * k.val) h1)

theorem flushed1 (t : Fin cfg0.N) : (datA (V0 m) d).flushed 1 t = ((cfg0.win 1).blk t).view.read (Elt Ideal) (logs m d) := by
  obtain ⟨-, -, h0, h1, -⟩ := row_index0 t
  have ht := point_lt0 t
  refine funext fun j => ?_
  rw [View.read_apply]
  have j0 : (j 0 : Nat) < 1000 := (j 0).isLt
  have j1 : (j 1 : Nat) < 128 := (j 1).isLt
  let R : Fin 10000 := ⟨1000 * t.val + j 0, by omega⟩
  let r : Fin 1000 := ⟨j 0, j0⟩
  let l : Fin 128 := ⟨j 1, j1⟩
  have hj : ((cfg0.win 1).blk t).view.emb j = (ix2 R l : S10000x128.Idx) := funext fun a => Fin.ext (by
    match a with
    | ⟨0, _⟩ => show win0_1.index t 0 * 1000 + 1 * (j 0).val = 1000 * t.val + (j 0).val; omega
    | ⟨1, _⟩ => show win0_1.index t 1 * 128 + 1 * (j 1).val = (j 1).val; omega)
  rw [hj]
  have hj' : j = (ix2 r l : S1000x128.Idx) := ValueIdx.eq_ix2 j
  show k0_pay1 (F := Ideal) (blkA (V0 m) d 0 t) j = logs m d (ix2 R l)
  rw [hj']
  refine (pay1_apply _ _).trans ?_
  exact congrArg (fun a : EReal => Ideal.log (max a (-a))) (blkA_apply m d t r l R rfl)

theorem flushed2 (t : Fin cfg0.N) : (datA (V0 m) d).flushed 2 t = ((cfg0.win 2).blk t).view.read (Elt Ideal) (flags m d) := by
  obtain ⟨-, -, -, -, h0, h1⟩ := row_index0 t
  have ht := point_lt0 t
  refine funext fun j => ?_
  rw [View.read_apply]
  have j0 : (j 0 : Nat) < 1000 := (j 0).isLt
  have j1 : (j 1 : Nat) < 128 := (j 1).isLt
  let R : Fin 10000 := ⟨1000 * t.val + j 0, by omega⟩
  let r : Fin 1000 := ⟨j 0, j0⟩
  let l : Fin 128 := ⟨j 1, j1⟩
  have hj : ((cfg0.win 2).blk t).view.emb j = (ix2 R l : S10000x128.Idx) := funext fun a => Fin.ext (by
    match a with
    | ⟨0, _⟩ => show win0_2.index t 0 * 1000 + 1 * (j 0).val = 1000 * t.val + (j 0).val; omega
    | ⟨1, _⟩ => show win0_2.index t 1 * 128 + 1 * (j 1).val = (j 1).val; omega)
  rw [hj]
  have hj' : j = (ix2 r l : S1000x128.Idx) := ValueIdx.eq_ix2 j
  show k0_pay2 (F := Ideal) (blkA (V0 m) d 0 t) j = flags m d (ix2 R l)
  rw [hj']
  refine (pay2_apply _ _).trans ?_
  exact congrArg (fun a : EReal => if a < 0 then (1 : EReal) else 0) (blkA_apply m d t r l R rfl)

/-- A row lies in the block of the point that is its thousands. -/
theorem in_block (i : S10000x128.Idx) (f : Fin 2 → ℕ) (h0 : f 0 = (i 0).val / 1000) (h1 : f 1 = 0) (a : Fin 2) :
    f a * (![1000, 128] : Fin 2 → ℕ) a ≤ (i a).val ∧ (i a).val < f a * (![1000, 128] : Fin 2 → ℕ) a + (![1000, 128] : Fin 2 → ℕ) a := by
  have i0 : (i 0 : Nat) < 10000 := (i 0).isLt
  have i1 : (i 1 : Nat) < 128 := (i 1).isLt
  match a with
  | ⟨0, _⟩ => show f 0 * 1000 ≤ (i 0).val ∧ (i 0).val < f 0 * 1000 + 1000; omega
  | ⟨1, _⟩ => show f 1 * 128 ≤ (i 1).val ∧ (i 1).val < f 1 * 128 + 128; omega

theorem thousands_lt (i : S10000x128.Idx) : (i 0 : Nat) / 1000 < 10 := by
  have i0 : (i 0 : Nat) < 10000 := (i 0).isLt
  omega

theorem cover1 (i : S10000x128.Idx) : ∃ t : Fin cfg0.N, (cfg0.win 1).flush t = true ∧ i ∈ ((cfg0.win 1).blk t).view.set := by
  refine ⟨⟨(i 0 : Nat) / 1000, thousands_lt i⟩, flush0_1 _, ?_⟩
  obtain ⟨-, -, h0, h1, -⟩ := row_index0 ⟨(i 0 : Nat) / 1000, thousands_lt i⟩
  show i ∈ ((View.whole main_v0_0).slice (win0_1.rect ⟨(i 0 : Nat) / 1000, thousands_lt i⟩)).set
  rw [View.set_slice_whole, Rect.mem_set_unit]
  exact in_block i _ h0 h1

theorem cover2 (i : S10000x128.Idx) : ∃ t : Fin cfg0.N, (cfg0.win 2).flush t = true ∧ i ∈ ((cfg0.win 2).blk t).view.set := by
  refine ⟨⟨(i 0 : Nat) / 1000, thousands_lt i⟩, flush0_2 _, ?_⟩
  obtain ⟨-, -, -, -, h0, h1⟩ := row_index0 ⟨(i 0 : Nat) / 1000, thousands_lt i⟩
  show i ∈ ((View.whole main_v0_1).slice (win0_2.rect ⟨(i 0 : Nat) / 1000, thousands_lt i⟩)).set
  rw [View.set_slice_whole, Rect.mem_set_unit]
  exact in_block i _ h0 h1

theorem lg_eq : lg m d = logs m d :=
  (Pipeline.afterRegion_arr (datA (V0 m) d) (V0 m d) (kit0 (F := Ideal)).win.arr_inj 1).trans
    ((datA (V0 m) d).arrAt_eq_of_cover 1 (logs m d) (fun t _ => flushed1 m d t) cover1)

theorem fl_eq : fl m d = flags m d :=
  (Pipeline.afterRegion_arr (datA (V0 m) d) (V0 m d) (kit0 (F := Ideal)).win.arr_inj 2).trans
    ((datA (V0 m) d).arrAt_eq_of_cover 2 (flags m d) (fun t _ => flushed2 m d t) cover2)

/-! ## The last call's result -/

theorem row_index2 (t : Fin cfg2.N) :
    win2_0.index t 0 = t.val ∧ win2_0.index t 1 = 0 ∧ win2_1.index t 0 = t.val ∧ win2_1.index t 1 = 0
    ∧ win2_2.index t 0 = t.val ∧ win2_2.index t 1 = 0 ∧ win2_7.index t 0 = t.val ∧ win2_7.index t 1 = 0 := by
  revert t
  decide +kernel

theorem fixed_index2 (t : Fin cfg2.N) :
    win2_3.index t 0 = 0 ∧ win2_3.index t 1 = 0 ∧ win2_4.index t 0 = 0 ∧ win2_4.index t 1 = 0
    ∧ win2_5.index t 0 = 0 ∧ win2_5.index t 1 = 0 ∧ win2_6.index t 0 = 0 ∧ win2_6.index t 1 = 0 := by
  revert t
  decide +kernel

theorem point_lt2 (t : Fin cfg2.N) : t.val < 10 := t.isLt

/-- The last call's operands as it finds them. -/
abbrev oX : S10000x128.Idx → EReal := V3 m d (ref main_arg0)
abbrev oL : S10000x128.Idx → EReal := V3 m d (ref main_v35)
abbrev oS : S10000x128.Idx → EReal := V3 m d (ref main_v36)
abbrev oW1 : S128x128.Idx → EReal := V3 m d (ref main_v37)
abbrev oW2 : S128x128.Idx → EReal := V3 m d (ref main_v38)
abbrev oB1 : S1x128.Idx → EReal := V3 m d (ref main_v39)
abbrev oB2 : S1x128.Idx → EReal := V3 m d (ref main_v40)

theorem rowsB_apply (t : Fin cfg2.N) (r : Fin 1000) (k : Fin 128) (R : Fin 10000) (hR : R.val = 1000 * t.val + r.val) :
    (blkB (V3 m) d 0 t : S1000x128.Idx → EReal) (ix2 r k) = oX m d (ix2 R k)
    ∧ (blkB (V3 m) d 1 t : S1000x128.Idx → EReal) (ix2 r k) = oL m d (ix2 R k)
    ∧ (blkB (V3 m) d 2 t : S1000x128.Idx → EReal) (ix2 r k) = oS m d (ix2 R k) := by
  obtain ⟨h00, h01, h10, h11, h20, h21, -, -⟩ := row_index2 t
  exact ⟨read_rows (oX m d) _ _ r k R hR (congrArg (· * 1000 + 1 * r.val) h00) (congrArg (· * 128 + 1 * k.val) h01),
    read_rows (oL m d) _ _ r k R hR (congrArg (· * 1000 + 1 * r.val) h10) (congrArg (· * 128 + 1 * k.val) h11),
    read_rows (oS m d) _ _ r k R hR (congrArg (· * 1000 + 1 * r.val) h20) (congrArg (· * 128 + 1 * k.val) h21)⟩

theorem fixedB_apply (t : Fin cfg2.N) (k l : Fin 128) :
    (blkB (V3 m) d 3 t : S128x128.Idx → EReal) (ix2 k l) = oW1 m d (ix2 k l)
    ∧ (blkB (V3 m) d 5 t : S128x128.Idx → EReal) (ix2 k l) = oW2 m d (ix2 k l)
    ∧ (blkB (V3 m) d 4 t : S1x128.Idx → EReal) (ix2 0 l) = oB1 m d (ix2 0 l)
    ∧ (blkB (V3 m) d 6 t : S1x128.Idx → EReal) (ix2 0 l) = oB2 m d (ix2 0 l) := by
  obtain ⟨h30, h31, h40, h41, h50, h51, h60, h61⟩ := fixed_index2 t
  exact ⟨read_fixed (oW1 m d) _ k l (congrArg (· * 128 + 1 * k.val) h30) (congrArg (· * 128 + 1 * l.val) h31),
    read_fixed (oW2 m d) _ k l (congrArg (· * 128 + 1 * k.val) h50) (congrArg (· * 128 + 1 * l.val) h51),
    read_fixed (oB1 m d) _ 0 l (congrArg (· * 1 + 1 * 0) h40) (congrArg (· * 128 + 1 * l.val) h41),
    read_fixed (oB2 m d) _ 0 l (congrArg (· * 1 + 1 * 0) h60) (congrArg (· * 128 + 1 * l.val) h61)⟩

/-- The result array by the last call's operands. -/
def combined : S10000x128.Idx → EReal := fun j =>
  cell (fun k => oX m d (ix2 (j 0) k)) (fun k => oL m d (ix2 (j 0) k)) (fun k => oS m d (ix2 (j 0) k))
    (fun k => oW1 m d (ix2 k (j 1))) (fun k => oW2 m d (ix2 k (j 1))) (oB1 m d (ix2 0 (j 1))) (oB2 m d (ix2 0 (j 1)))

theorem flushed7 (t : Fin cfg2.N) : (datB (V3 m) d).flushed 7 t = ((cfg2.win 7).blk t).view.read (Elt Ideal) (combined m d) := by
  have hi := row_index2 t
  have ht := point_lt2 t
  refine funext fun j => ?_
  rw [View.read_apply]
  have j0 : (j 0 : Nat) < 1000 := (j 0).isLt
  have j1 : (j 1 : Nat) < 128 := (j 1).isLt
  let R : Fin 10000 := ⟨1000 * t.val + j 0, by omega⟩
  let r : Fin 1000 := ⟨j 0, j0⟩
  let l : Fin 128 := ⟨j 1, j1⟩
  have hj : ((cfg2.win 7).blk t).view.emb j = (ix2 R l : S10000x128.Idx) := funext fun a => Fin.ext (by
    match a with
    | ⟨0, _⟩ => show win2_7.index t 0 * 1000 + 1 * (j 0).val = 1000 * t.val + (j 0).val; omega
    | ⟨1, _⟩ => show win2_7.index t 1 * 128 + 1 * (j 1).val = (j 1).val; omega)
  rw [hj]
  have hj' : j = (ix2 r l : S1000x128.Idx) := ValueIdx.eq_ix2 j
  show k2_pay1 (F := Ideal) (blkB (V3 m) d 0 t) (blkB (V3 m) d 3 t) (blkB (V3 m) d 4 t) (blkB (V3 m) d 2 t) (blkB (V3 m) d 1 t)
    (blkB (V3 m) d 5 t) (blkB (V3 m) d 6 t) j = combined m d (ix2 R l)
  rw [hj']
  refine (Cert.CombineIdeal.Sums.pay_apply _ _ _ _ _ _ _ r l).trans ?_
  show _ = cell _ _ _ _ _ _ _
  have hr := fun k => rowsB_apply m d t r k R rfl
  have hf := fun k => fixedB_apply m d t k l
  simp only [fun k => (hr k).1, fun k => (hr k).2.1, fun k => (hr k).2.2, fun k => (hf k).1, fun k => (hf k).2.1, (hf 0).2.2.1, (hf 0).2.2.2]
  rfl

theorem cover7 (i : S10000x128.Idx) : ∃ t : Fin cfg2.N, (cfg2.win 7).flush t = true ∧ i ∈ ((cfg2.win 7).blk t).view.set := by
  refine ⟨⟨(i 0 : Nat) / 1000, thousands_lt i⟩, flush2_7 _, ?_⟩
  obtain ⟨-, -, -, -, -, -, h0, h1⟩ := row_index2 ⟨(i 0 : Nat) / 1000, thousands_lt i⟩
  show i ∈ ((View.whole main_v41).slice (win2_7.rect ⟨(i 0 : Nat) / 1000, thousands_lt i⟩)).set
  rw [View.set_slice_whole, Rect.mem_set_unit]
  exact in_block i _ h0 h1

theorem V4_eq : V4 m d (ref main_v41) = combined m d :=
  (Pipeline.afterRegion_arr (datB (V3 m) d) (V3 m d) (kit2 (F := Ideal)).win.arr_inj 7).trans
    ((datB (V3 m) d).arrAt_eq_of_cover 7 (combined m d) (fun t _ => flushed7 m d t) cover7)

end Cert.Gathering

end
-- ==== Proof.KernelSums.lean ====
/-
  The sums over the edges: row `r` of either half holds the sum of the rows, of the logarithms or of the flags, that the
  edges to row `r` start from; the padding's rows are added to a row that is no result (`sum_pad`).
-/
module

public import proofs.«01_k».proof.Proof.KernelResult
public import Idealize.ShloMosaic.Lib.Routing.OpsPair

@[expose] public section

noncomputable section

namespace Cert.Gathering

open Cert.KernelIdeal Cert.KernelIdeal.Gen
open Idealize.ShloMosaic Idealize.ShloMosaic.TcCoe
open Cert.CombineIdeal.Sums (cell)
open scoped BigOperators

variable (m : (ℓ : Loc nD τ sig) → Buf (Elt Ideal) ℓ) (d : Dev nD)

/-- A sum over those of the padded edges that have a property, none of the padding having it. -/
theorem sum_pad (P : Fin 327680 → Prop) [DecidablePred P] (Q : Fin 320000 → Prop) [DecidablePred Q]
    (h : ∀ e : Fin 320000, P ⟨e.val, by omega⟩ ↔ Q e) (hn : ∀ e : Fin 327680, 320000 ≤ e.val → ¬P e) (f : Fin 327680 → EReal) :
    ∑ e ∈ Finset.univ.filter P, f e = ∑ e ∈ Finset.univ.filter Q, f ⟨e.val, by omega⟩ := by
  symm
  refine Finset.sum_bij (fun e _ => ⟨e.val, by omega⟩) ?_ ?_ ?_ ?_
  · intro e he
    exact Finset.mem_filter.2 ⟨Finset.mem_univ _, (h e).2 (Finset.mem_filter.1 he).2⟩
  · intro a _ b _ hab
    exact Fin.ext (Fin.mk.inj hab)
  · intro e he
    have hp := (Finset.mem_filter.1 he).2
    have hlt : e.val < 320000 := by
      by_contra hh
      exact hn e (by omega) hp
    exact ⟨⟨e.val, hlt⟩, Finset.mem_filter.2 ⟨Finset.mem_univ _, (h ⟨e.val, hlt⟩).1 hp⟩, rfl⟩
  · intro e _
    rfl

/-- The rows' numbers in their order, read back from the block of lines. -/
theorem lines_flat (x : S327680.Idx → BitVec 32) :
    shapeCast S327680 (shapeCast S160x16x128 x shapeCasts_S327680_S160x16x128) shapeCasts_S160x16x128_S327680 = x := by
  funext i
  obtain ⟨a, rfl⟩ : ∃ a : Fin 327680, i = ix1 a := ⟨i 0, ValueIdx.eq_ix1 i⟩
  pointwise

/-- The column that the host adds at: the numbers themselves, none being negative. -/
theorem col_apply (x : S327680.Idx → BitVec 32) (e : Fin 327680) (h : (x (ix1 e)).toNat < 2 ^ 31) :
    col (shapeCast S160x16x128 x shapeCasts_S327680_S160x16x128) (ix2 e 0) = x (ix1 e) := by
  unfold col
  rw [lines_flat]
  pointwise
  exact Routing.wrap_of_lt _ _ (by simpa using h)

/-- The edges that point to row `r`. -/
abbrev edgesTo (r : Fin 10000) : Finset (Fin 320000) :=
  Finset.univ.filter fun e => (a1 m d (ix2 1 e)).toNat = r.val

variable {m} in
/-- One half's sums at a result's row: over the edges to it. -/
theorem sumsOf_apply (h : InRange m) (u : S327680x128.Idx → EReal) (r : Fin 10000) (c : Fin 128) :
    sumsOf (F := Ideal) (broadcastInDim S10112x128 ![] bcast_S_S10112x128 (constant S_ .f32 0x00000000#32))
        (shapeCast S160x16x128 (targets m d) shapeCasts_S327680_S160x16x128) u (ix2 ⟨r.val, by omega⟩ c)
      = ∑ e ∈ edgesTo m d r, u (ix2 ⟨e.val, by omega⟩ c) := by
  have hr := r.isLt
  have ht : ∀ e : Fin 327680, (targets m d (ix1 e)).toNat < 2 ^ 31 := fun e => by
    rw [targets_apply]
    split
    · have := h d (ix2 1 ⟨e.val, by assumption⟩); omega
    · decide
  have hc := fun e => col_apply (targets m d) e (ht e)
  unfold sumsOf
  refine (Product.sum_landing scatter_S10112x128_S327680x1_S327680x128_1_0_0_1 rfl rfl rfl rfl _ _ u _ c).trans ?_
  refine (congrArg₂ (fun a b : EReal => a + b) Ideal.ofBits_zero_f32 (sum_pad _ _ ?_ ?_ _)).trans (zero_add _)
  · intro e
    rw [hc, targets_apply, dif_pos e.isLt]
    have := h d (ix2 1 e)
    show (a1 m d (ix2 1 e)).toInt = (r.val : ℤ) ↔ _
    rw [BitVec.toInt_eq_toNat_of_lt (by omega)]
    exact Nat.cast_inj
  · intro e he
    rw [hc, targets_apply, dif_neg (by omega)]
    show ¬((10000#32 : BitVec 32).toInt = (r.val : ℤ))
    rw [show (10000#32 : BitVec 32).toInt = 10000 from rfl]
    omega

/-! ## The operands of the last call -/

theorem oRef_V2 : (V2 m d oRef : S655360x128.Idx → EReal) = goal (tab m d) (src m d) := V2_o m d

set_option maxRecDepth 8192 in
theorem first_half (s0 s1 : S10112x128.Idx → EReal) (r : Fin 10000) (c : Fin 128) :
    extractStridedSlice S10000x128 ![0, 0] (concatenate S20224x128 0 [⟨S10112x128, s0⟩, ⟨S10112x128, s1⟩]
      concatenates_S10112x128_S10112x128_S20224x128_d0) slices_S20224x128_S10000x128_0_0 (ix2 r c) = s0 (ix2 ⟨r.val, by omega⟩ c) := by
  pointwise
  rw [dif_pos (show r.val < 10112 by omega)]

theorem lower (s0 s1 : S10112x128.Idx → EReal) (k : Fin 20224) (r : Fin 10112) (c : Fin 128) (hk : k.val = r.val + 10112) :
    concatenate S20224x128 0 [⟨S10112x128, s0⟩, ⟨S10112x128, s1⟩] concatenates_S10112x128_S10112x128_S20224x128_d0 (ix2 k c) = s1 (ix2 r c) := by
  have hr := r.isLt
  pointwise
  rw [dif_neg (by omega)]
  exact congrArg (fun z => s1 (ix2 z c)) (Fin.ext (show k.val - 10112 = r.val by omega))

theorem second_half (s0 s1 : S10112x128.Idx → EReal) (r : Fin 10000) (c : Fin 128) :
    extractStridedSlice S10000x128 ![10112, 0] (concatenate S20224x128 0 [⟨S10112x128, s0⟩, ⟨S10112x128, s1⟩]
      concatenates_S10112x128_S10112x128_S20224x128_d0) slices_S20224x128_S10000x128_10112_0 (ix2 r c) = s1 (ix2 ⟨r.val, by omega⟩ c) := by
  have h := lower s0 s1 ⟨10112 + r.val, by omega⟩ ⟨r.val, by omega⟩ c (by show 10112 + r.val = r.val + 10112; omega)
  refine Eq.trans ?_ h
  generalize concatenate S20224x128 0 [⟨S10112x128, s0⟩, ⟨S10112x128, s1⟩] concatenates_S10112x128_S10112x128_S20224x128_d0 = y
  pointwise

variable {m} in
theorem oL_apply (h : InRange m) (r : Fin 10000) (c : Fin 128) :
    oL m d (ix2 r c) = ∑ e ∈ edgesTo m d r, logs m d (ix2 ⟨(a1 m d (ix2 0 e)).toNat, h d _⟩ c) := by
  have hs := fun u => sumsOf_apply d h u r c
  have h0 := fun e => rows0_apply h d e c
  refine (congrFun (post35 (V2 m d)) (ix2 r c)).trans ?_
  rw [zeros_eq, lines_eq, V2_o]
  unfold sums
  generalize goal (tab m d) (src m d) = o at h0
  have hs := hs (extractStridedSlice S327680x128 ![0, 0] o slices_S655360x128_S327680x128_0_0)
  generalize sumsOf (F := Ideal) (broadcastInDim S10112x128 ![] bcast_S_S10112x128 (constant S_ .f32 0x00000000#32))
    (shapeCast S160x16x128 (targets m d) shapeCasts_S327680_S160x16x128) (extractStridedSlice S327680x128 ![0, 0] o slices_S655360x128_S327680x128_0_0) = s0 at hs
  generalize sumsOf (F := Ideal) (broadcastInDim S10112x128 ![] bcast_S_S10112x128 (constant S_ .f32 0x00000000#32))
    (shapeCast S160x16x128 (targets m d) shapeCasts_S327680_S160x16x128) (extractStridedSlice S327680x128 ![327680, 0] o slices_S655360x128_S327680x128_327680_0) = s1
  refine ((first_half s0 s1 r c).trans hs).trans (Finset.sum_congr rfl fun e _ => ?_)
  refine Eq.trans ?_ ((h0 e).trans (congrFun (lg_eq m d) _))
  pointwise

variable {m} in
theorem oS_apply (h : InRange m) (r : Fin 10000) (c : Fin 128) :
    oS m d (ix2 r c) = ∑ e ∈ edgesTo m d r, flags m d (ix2 ⟨(a1 m d (ix2 0 e)).toNat, h d _⟩ c) := by
  have hs := fun u => sumsOf_apply d h u r c
  have h0 := fun e => rows1_apply h d e c
  refine (congrFun (post36 (V2 m d)) (ix2 r c)).trans ?_
  rw [zeros_eq, lines_eq, V2_o]
  unfold sums
  generalize goal (tab m d) (src m d) = o at h0
  have hs := hs (extractStridedSlice S327680x128 ![327680, 0] o slices_S655360x128_S327680x128_327680_0)
  generalize sumsOf (F := Ideal) (broadcastInDim S10112x128 ![] bcast_S_S10112x128 (constant S_ .f32 0x00000000#32))
    (shapeCast S160x16x128 (targets m d) shapeCasts_S327680_S160x16x128) (extractStridedSlice S327680x128 ![0, 0] o slices_S655360x128_S327680x128_0_0) = s0
  generalize sumsOf (F := Ideal) (broadcastInDim S10112x128 ![] bcast_S_S10112x128 (constant S_ .f32 0x00000000#32))
    (shapeCast S160x16x128 (targets m d) shapeCasts_S327680_S160x16x128) (extractStridedSlice S327680x128 ![327680, 0] o slices_S655360x128_S327680x128_327680_0) = s1 at hs
  refine ((second_half s0 s1 r c).trans hs).trans (Finset.sum_congr rfl fun e _ => ?_)
  refine Eq.trans ?_ ((h0 e).trans (congrFun (fl_eq m d) _))
  pointwise

variable {m} in
/-- The rebuilt product is the product of the rows. -/
theorem rebuilt (h : InRange m) (r : Fin 10000) (c : Fin 128) :
    CombineIdeal.Sums.sign (oS m d (ix2 r c)) * Ideal.exp (oL m d (ix2 r c))
      = ∏ e ∈ edgesTo m d r, a0 m d (ix2 ⟨(a1 m d (ix2 0 e)).toNat, h d _⟩ c) := by
  rw [oS_apply d h, oL_apply d h]
  exact Product.prod_eq (edgesTo m d r) fun e => a0 m d (ix2 ⟨(a1 m d (ix2 0 e)).toNat, h d _⟩ c)

variable {m} in
/-- Row `r`, column `l` of the program's result. -/
theorem combined_apply (h : InRange m) (r : Fin 10000) (l : Fin 128) :
    combined m d (ix2 r l) = (∑ k, a0 m d (ix2 r k) * a2 m d (ix2 l k) + a3 m d (ix1 l))
      * (∑ k, (∏ e ∈ edgesTo m d r, a0 m d (ix2 ⟨(a1 m d (ix2 0 e)).toNat, h d _⟩ k)) * a4 m d (ix2 l k) + a5 m d (ix1 l)) := by
  have hx : oX m d = a0 m d := arg0_3 m d
  have hv2 : ∀ b, b ≠ oRef → V2 m d b = V1 m d b := V2_of_ne m d
  have w1 : ∀ k, oW1 m d (ix2 k l) = a2 m d (ix2 l k) := fun k => by
    refine (congrFun (post37 (V2 m d)) (ix2 k l)).trans ?_
    have e : V2 m d (ref main_arg2) = a2 m d := (hv2 _ (by decide)).trans (arg2_A m d)
    rw [e]
    pointwise
  have w2 : ∀ k, oW2 m d (ix2 k l) = a4 m d (ix2 l k) := fun k => by
    refine (congrFun (post38 (V2 m d)) (ix2 k l)).trans ?_
    have e : V2 m d (ref main_arg4) = a4 m d := (hv2 _ (by decide)).trans (arg4_A m d)
    rw [e]
    pointwise
  have b1 : oB1 m d (ix2 0 l) = a3 m d (ix1 l) := by
    refine (congrFun (post39 (V2 m d)) (ix2 0 l)).trans ?_
    have e : V2 m d (ref main_arg3) = a3 m d := (hv2 _ (by decide)).trans (arg3_A m d)
    rw [e]
    pointwise
  have b2 : oB2 m d (ix2 0 l) = a5 m d (ix1 l) := by
    refine (congrFun (post40 (V2 m d)) (ix2 0 l)).trans ?_
    have e : V2 m d (ref main_arg5) = a5 m d := (hv2 _ (by decide)).trans (arg5_A m d)
    rw [e]
    pointwise
  show cell _ _ _ _ _ _ _ = _
  unfold cell
  show (∑ k, oX m d (ix2 r k) * oW1 m d (ix2 k l) + oB1 m d (ix2 0 l))
    * (∑ k, CombineIdeal.Sums.sign (oS m d (ix2 r k)) * Ideal.exp (oL m d (ix2 r k)) * oW2 m d (ix2 k l) + oB2 m d (ix2 0 l)) = _
  simp only [hx, rebuilt d h, w1, w2, b1, b2]

end Cert.Gathering

end
-- ==== Proof.Reference.lean ====
/-
  The reference's run: its operations as lists, the counted loop over the edges between them, and what every buffer ends at.
-/
module

public import proofs.«01_k».proof.Defs
public import proofs.«01_k».proof.Proof.Gen.ReferenceIdeal
public import Idealize.ShloMosaic.Lib.StableHlo.Run
public import Idealize.ShloMosaic.Lib.StableHlo.RunLoop
public import Idealize.ShloMosaic.Lib.StableHlo.ReadAt
public import Idealize.ShloMosaic.Lib.Scf.Counter
public import Idealize.ShloMosaic.Lib.Scf.ExitTest
public import Idealize.ShloMosaic.Lib.Quiescent

@[expose] public section

noncomputable section

namespace Cert.Reference

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Option PUnit) ℕ

/-! ## The operations -/

/-- The first biased product. -/
abbrev hidden : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)) ]
theorem hidden_sub : (hidden (F := F)).Forall fun op => op.bufs ⊆ tcRefs τ sig :=
  ⟨unary_bufs_sub .., binary_bufs_sub .., unary_bufs_sub .., unary_bufs_sub .., binary_bufs_sub ..⟩

/-- The edges' two rows. -/
abbrev ends : List (HloOp τ sig (Elt F)) :=
  [ unary main_arg1 main_v5 ((extractStridedSlice S1x320000 ![0, 0] · slices_S2x320000_S1x320000_0_0) : (⟨S2x320000, .i32⟩ : BufTy).Contents (Elt F) → (⟨S1x320000, .i32⟩ : BufTy).Contents (Elt F)),
    reshape main_v5 main_v6 (rfl : (.i32 : EltTy) = .i32) shapeCasts_S1x320000_S320000,
    unary main_arg1 main_v7 ((extractStridedSlice S1x320000 ![1, 0] · slices_S2x320000_S1x320000_1_0) : (⟨S2x320000, .i32⟩ : BufTy).Contents (Elt F) → (⟨S1x320000, .i32⟩ : BufTy).Contents (Elt F)),
    reshape main_v7 main_v8 (rfl : (.i32 : EltTy) = .i32) shapeCasts_S1x320000_S320000 ]
theorem ends_sub : (ends (F := F)).Forall fun op => op.bufs ⊆ tcRefs τ sig :=
  ⟨unary_bufs_sub .., reshape_bufs_sub .., unary_bufs_sub .., reshape_bufs_sub ..⟩

/-- The rows of the input that the edges start from. -/
abbrev rows : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S320000, .i32⟩) main_call0_v0) (broadcastInDim S320000 ![] bcast_S_S320000),
    TRef.binary (TRef.of (T := ⟨S320000, .i32⟩) main_v6) (TRef.of (T := ⟨S320000, .i32⟩) main_call0_v0) (TRef.of (T := ⟨S320000, .i1⟩) main_call0_v1) (cmpi .slt),
    TRef.nullary (TRef.of (T := ⟨S_, .i32⟩) main_call0_c_0) (constantI S_ 32 10000#32),
    TRef.unary (TRef.of (T := ⟨S_, .i32⟩) main_call0_c_0) (TRef.of (T := ⟨S320000, .i32⟩) main_call0_v2) (broadcastInDim S320000 ![] bcast_S_S320000),
    TRef.binary (TRef.of (T := ⟨S320000, .i32⟩) main_v6) (TRef.of (T := ⟨S320000, .i32⟩) main_call0_v2) (TRef.of (T := ⟨S320000, .i32⟩) main_call0_v3) addi,
    TRef.ternary (TRef.of (T := ⟨S320000, .i1⟩) main_call0_v1) (TRef.of (T := ⟨S320000, .i32⟩) main_call0_v3) (TRef.of (T := ⟨S320000, .i32⟩) main_v6) (TRef.of (T := ⟨S320000, .i32⟩) main_call0_v4) select,
    TRef.unary (TRef.of (T := ⟨S320000, .i32⟩) main_call0_v4) (TRef.of (T := ⟨S320000x1, .i32⟩) main_call0_v5) (broadcastInDim S320000x1 ![0] bcast_S320000_S320000x1_0),
    TRef.nullary (TRef.of (T := ⟨S1, .i32⟩) main_call0_c_1) (constantI S1 32 9999#32),
    TRef.nullary (TRef.of (T := ⟨S_, .i32⟩) main_call0_c_2) (constantI S_ 32 0#32),
    TRef.unary (TRef.of (T := ⟨S_, .i32⟩) main_call0_c_2) (TRef.of (T := ⟨S320000x1, .i32⟩) main_call0_v6) (broadcastInDim S320000x1 ![] bcast_S_S320000x1),
    TRef.binary (TRef.of (T := ⟨S320000x1, .i32⟩) main_call0_v5) (TRef.of (T := ⟨S320000x1, .i32⟩) main_call0_v6) (TRef.of (T := ⟨S320000x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S320000x1, .i32⟩) main_call0_v9) (broadcastInDim S320000x1 ![0, 1] bcast_S1x1_S320000x1_0_1),
    TRef.binary (TRef.of (T := ⟨S320000x1, .i32⟩) main_call0_v5) (TRef.of (T := ⟨S320000x1, .i32⟩) main_call0_v9) (TRef.of (T := ⟨S320000x1, .i1⟩) main_call0_v10) (cmpi .sle),
    TRef.binary (TRef.of (T := ⟨S320000x1, .i1⟩) main_call0_v7) (TRef.of (T := ⟨S320000x1, .i1⟩) main_call0_v10) (TRef.of (T := ⟨S320000x1, .i1⟩) main_call0_v11) andi,
    TRef.nullary (TRef.of (T := ⟨S_, .i1⟩) main_call0_c_3) (constantI S_ 1 1#1),
    TRef.binary (TRef.of (T := ⟨S320000x1, .i1⟩) main_call0_v11) (TRef.of (T := ⟨S_, .i1⟩) main_call0_c_3) (TRef.of (T := ⟨S320000, .i1⟩) main_call0_v12) (fun x v => Host.reduce IntOp.andi x v reducesTo_S320000x1_S320000_d1 h_S_),
    TRef.binary (TRef.of (T := ⟨S10000x128, .f32⟩) main_arg0) (TRef.of (T := ⟨S320000x1, .i32⟩) main_call0_v5) (TRef.of (T := ⟨S320000x128, .f32⟩) main_call0_v13) (fun x i => Host.gather gather_S10000x128_S320000x1_S320000x128_1_0_n_n_0_1_1128 x i),
    TRef.unary (TRef.of (T := ⟨S320000, .i1⟩) main_call0_v12) (TRef.of (T := ⟨S320000x128, .i1⟩) main_call0_v14) (broadcastInDim S320000x128 ![0] bcast_S320000_S320000x128_0),
    TRef.nullary (TRef.of (T := ⟨S_, .f32⟩) main_call0_cst) (constant S_ .f32 0x7FC00000#32),
    TRef.unary (TRef.of (T := ⟨S_, .f32⟩) main_call0_cst) (TRef.of (T := ⟨S320000x128, .f32⟩) main_call0_v15) (broadcastInDim S320000x128 ![] bcast_S_S320000x128),
    TRef.ternary (TRef.of (T := ⟨S320000x128, .i1⟩) main_call0_v14) (TRef.of (T := ⟨S320000x128, .f32⟩) main_call0_v13) (TRef.of (T := ⟨S320000x128, .f32⟩) main_call0_v15) (TRef.of (T := ⟨S320000x128, .f32⟩) main_v9) select ]
theorem rows_sub : (rows (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The loop's carried values: the targets, the rows, the counter twice, ones. -/
abbrev start : List (HloOp τ sig (Elt F)) :=
  [ nullary main_cst (constant S_ .f32 0x3F800000#32),
    unary main_cst main_v10 (broadcastInDim S10000x128 ![] bcast_S_S10000x128 : (⟨S_, .f32⟩ : BufTy).Contents (Elt F) → (⟨S10000x128, .f32⟩ : BufTy).Contents (Elt F)),
    nullary main_c (constantI S_ 32 0#32),
    nullary main_c_0 (constantI S_ 32 0#32),
    unary main_v8 main_v11_0 id,
    unary main_v9 main_v11_1 id,
    unary main_c_0 main_v11_2 id,
    unary main_c main_v11_3 id,
    unary main_v10 main_v11_4 id ]
theorem start_sub : (start (F := F)).Forall fun op => op.bufs ⊆ tcRefs τ sig :=
  ⟨nullary_bufs_sub .., unary_bufs_sub .., nullary_bufs_sub .., nullary_bufs_sub .., unary_bufs_sub .., unary_bufs_sub .., unary_bufs_sub .., unary_bufs_sub .., unary_bufs_sub ..⟩

/-- The loop's condition. -/
abbrev condOps : List (HloOp τ sig (Elt F)) :=
  [ nullary main_while0c_c_5 (constantI S_ 32 320000#32),
    binary main_v11_2 main_while0c_c_5 main_while0c_v18 (cmpi .slt : (⟨S_, .i32⟩ : BufTy).Contents (Elt F) → (⟨S_, .i32⟩ : BufTy).Contents (Elt F) → (⟨S_, .i1⟩ : BufTy).Contents (Elt F)) ]
theorem condOps_sub : (condOps (F := F)).Forall fun op => op.bufs ⊆ tcRefs τ sig :=
  ⟨nullary_bufs_sub .., binary_bufs_sub ..⟩

/-- One trip of the loop. -/
abbrev trip : List (HloOp τ sig (Elt F)) :=
  [ nullary main_while0b_c_5 (constantI S_ 32 1#32),
    binary main_v11_3 main_while0b_c_5 main_while0b_v18 (addi : (⟨S_, .i32⟩ : BufTy).Contents (Elt F) → (⟨S_, .i32⟩ : BufTy).Contents (Elt F) → (⟨S_, .i32⟩ : BufTy).Contents (Elt F)),
    nullary main_while0b_c_6 (constantI S_ 32 0#32),
    binary main_v11_3 main_while0b_c_6 main_while0b_v19 (cmpi .slt : (⟨S_, .i32⟩ : BufTy).Contents (Elt F) → (⟨S_, .i32⟩ : BufTy).Contents (Elt F) → (⟨S_, .i1⟩ : BufTy).Contents (Elt F)),
    unary main_v11_3 main_while0b_v20 (id : (⟨S_, .i32⟩ : BufTy).Contents (Elt F) → (⟨S_, .i32⟩ : BufTy).Contents (Elt F)),
    nullary main_while0b_c_7 (constantI S_ 32 320000#32),
    binary main_while0b_v20 main_while0b_c_7 main_while0b_v21 (addi : (⟨S_, .i32⟩ : BufTy).Contents (Elt F) → (⟨S_, .i32⟩ : BufTy).Contents (Elt F) → (⟨S_, .i32⟩ : BufTy).Contents (Elt F)),
    ternary main_while0b_v19 main_while0b_v21 main_v11_3 main_while0b_v22 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v11_0 ![main_while0b_v22] ⟨S_, .i32⟩ main_while0b_v23 ((fun x i => Host.dynamicSlice S1 x (fun k => (i k (Shape.Idx.first h_S_)).toInt) sliceFits_S320000_S1) : (⟨S320000, .i32⟩ : BufTy).Contents (Elt F) → (Fin 1 → (⟨S_, .i32⟩ : BufTy).Contents (Elt F)) → (⟨S1, .i32⟩ : BufTy).Contents (Elt F)),
    reshape main_while0b_v23 main_while0b_v24 (rfl : (.i32 : EltTy) = .i32) shapeCasts_S1_S_,
    nullary main_while0b_c_8 (constantI S_ 32 0#32),
    binary main_while0b_v24 main_while0b_c_8 main_while0b_v25 (cmpi .slt : (⟨S_, .i32⟩ : BufTy).Contents (Elt F) → (⟨S_, .i32⟩ : BufTy).Contents (Elt F) → (⟨S_, .i1⟩ : BufTy).Contents (Elt F)),
    nullary main_while0b_c_9 (constantI S_ 32 10000#32),
    binary main_while0b_v24 main_while0b_c_9 main_while0b_v26 (addi : (⟨S_, .i32⟩ : BufTy).Contents (Elt F) → (⟨S_, .i32⟩ : BufTy).Contents (Elt F) → (⟨S_, .i32⟩ : BufTy).Contents (Elt F)),
    ternary main_while0b_v25 main_while0b_v26 main_while0b_v24 main_while0b_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_10 (constantI S_ 32 0#32),
    unaryIndexed main_v11_4 ![main_while0b_v27, main_while0b_c_10] ⟨S_, .i32⟩ main_while0b_v28 ((fun x i => Host.dynamicSlice S1x128 x (fun k => (i k (Shape.Idx.first h_S_)).toInt) sliceFits_S10000x128_S1x128) : (⟨S10000x128, .f32⟩ : BufTy).Contents (Elt F) → (Fin 2 → (⟨S_, .i32⟩ : BufTy).Contents (Elt F)) → (⟨S1x128, .f32⟩ : BufTy).Contents (Elt F)),
    nullary main_while0b_c_11 (constantI S_ 32 0#32),
    binary main_v11_3 main_while0b_c_11 main_while0b_v29 (cmpi .slt : (⟨S_, .i32⟩ : BufTy).Contents (Elt F) → (⟨S_, .i32⟩ : BufTy).Contents (Elt F) → (⟨S_, .i1⟩ : BufTy).Contents (Elt F)),
    unary main_v11_3 main_while0b_v30 (id : (⟨S_, .i32⟩ : BufTy).Contents (Elt F) → (⟨S_, .i32⟩ : BufTy).Contents (Elt F)),
    nullary main_while0b_c_12 (constantI S_ 32 320000#32),
    binary main_while0b_v30 main_while0b_c_12 main_while0b_v31 (addi : (⟨S_, .i32⟩ : BufTy).Contents (Elt F) → (⟨S_, .i32⟩ : BufTy).Contents (Elt F) → (⟨S_, .i32⟩ : BufTy).Contents (Elt F)),
    ternary main_while0b_v29 main_while0b_v31 main_v11_3 main_while0b_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_13 (constantI S_ 32 0#32),
    unaryIndexed main_v11_1 ![main_while0b_v32, main_while0b_c_13] ⟨S_, .i32⟩ main_while0b_v33 ((fun x i => Host.dynamicSlice S1x128 x (fun k => (i k (Shape.Idx.first h_S_)).toInt) sliceFits_S320000x128_S1x128) : (⟨S320000x128, .f32⟩ : BufTy).Contents (Elt F) → (Fin 2 → (⟨S_, .i32⟩ : BufTy).Contents (Elt F)) → (⟨S1x128, .f32⟩ : BufTy).Contents (Elt F)),
    binary main_while0b_v28 main_while0b_v33 main_while0b_v34 (mulf : (⟨S1x128, .f32⟩ : BufTy).Contents (Elt F) → (⟨S1x128, .f32⟩ : BufTy).Contents (Elt F) → (⟨S1x128, .f32⟩ : BufTy).Contents (Elt F)),
    nullary main_while0b_c_14 (constantI S_ 32 0#32),
    binary main_v11_3 main_while0b_c_14 main_while0b_v35 (cmpi .slt : (⟨S_, .i32⟩ : BufTy).Contents (Elt F) → (⟨S_, .i32⟩ : BufTy).Contents (Elt F) → (⟨S_, .i1⟩ : BufTy).Contents (Elt F)),
    unary main_v11_3 main_while0b_v36 (id : (⟨S_, .i32⟩ : BufTy).Contents (Elt F) → (⟨S_, .i32⟩ : BufTy).Contents (Elt F)),
    nullary main_while0b_c_15 (constantI S_ 32 320000#32),
    binary main_while0b_v36 main_while0b_c_15 main_while0b_v37 (addi : (⟨S_, .i32⟩ : BufTy).Contents (Elt F) → (⟨S_, .i32⟩ : BufTy).Contents (Elt F) → (⟨S_, .i32⟩ : BufTy).Contents (Elt F)),
    ternary main_while0b_v35 main_while0b_v37 main_v11_3 main_while0b_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v11_0 ![main_while0b_v38] ⟨S_, .i32⟩ main_while0b_v39 ((fun x i => Host.dynamicSlice S1 x (fun k => (i k (Shape.Idx.first h_S_)).toInt) sliceFits_S320000_S1) : (⟨S320000, .i32⟩ : BufTy).Contents (Elt F) → (Fin 1 → (⟨S_, .i32⟩ : BufTy).Contents (Elt F)) → (⟨S1, .i32⟩ : BufTy).Contents (Elt F)),
    reshape main_while0b_v39 main_while0b_v40 (rfl : (.i32 : EltTy) = .i32) shapeCasts_S1_S_,
    nullary main_while0b_c_16 (constantI S_ 32 0#32),
    binary main_while0b_v40 main_while0b_c_16 main_while0b_v41 (cmpi .slt : (⟨S_, .i32⟩ : BufTy).Contents (Elt F) → (⟨S_, .i32⟩ : BufTy).Contents (Elt F) → (⟨S_, .i1⟩ : BufTy).Contents (Elt F)),
    nullary main_while0b_c_17 (constantI S_ 32 10000#32),
    binary main_while0b_v40 main_while0b_c_17 main_while0b_v42 (addi : (⟨S_, .i32⟩ : BufTy).Contents (Elt F) → (⟨S_, .i32⟩ : BufTy).Contents (Elt F) → (⟨S_, .i32⟩ : BufTy).Contents (Elt F)),
    ternary main_while0b_v41 main_while0b_v42 main_while0b_v40 main_while0b_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_18 (constantI S_ 32 0#32),
    binaryIndexed main_v11_4 main_while0b_v34 ![main_while0b_v43, main_while0b_c_18] ⟨S_, .i32⟩ main_while0b_v44 ((fun x u i => Host.dynamicUpdateSlice x u (fun k => (i k (Shape.Idx.first h_S_)).toInt) updateFits_S10000x128_S1x128) : (⟨S10000x128, .f32⟩ : BufTy).Contents (Elt F) → (⟨S1x128, .f32⟩ : BufTy).Contents (Elt F) → (Fin 2 → (⟨S_, .i32⟩ : BufTy).Contents (Elt F)) → (⟨S10000x128, .f32⟩ : BufTy).Contents (Elt F)),
    nullary main_while0b_c_19 (constantI S_ 32 1#32),
    binary main_v11_2 main_while0b_c_19 main_while0b_v45 (addi : (⟨S_, .i32⟩ : BufTy).Contents (Elt F) → (⟨S_, .i32⟩ : BufTy).Contents (Elt F) → (⟨S_, .i32⟩ : BufTy).Contents (Elt F)),
    unary main_while0b_v45 main_v11_2 id,
    unary main_while0b_v18 main_v11_3 id,
    unary main_while0b_v44 main_v11_4 id ]
theorem trip_sub : (trip (F := F)).Forall fun op => op.bufs ⊆ tcRefs τ sig :=
  ⟨nullary_bufs_sub .., binary_bufs_sub .., nullary_bufs_sub .., binary_bufs_sub .., unary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., nullary_bufs_sub .., unaryIndexed_bufs_sub .., nullary_bufs_sub .., binary_bufs_sub .., unary_bufs_sub .., nullary_bufs_sub .., binary_bufs_sub .., ternary_bufs_sub .., nullary_bufs_sub .., unaryIndexed_bufs_sub .., binary_bufs_sub .., nullary_bufs_sub .., binary_bufs_sub .., unary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., nullary_bufs_sub .., binaryIndexed_bufs_sub .., nullary_bufs_sub .., binary_bufs_sub .., unary_bufs_sub .., unary_bufs_sub .., unary_bufs_sub ..⟩

/-- The second biased product, and the product of both. -/
abbrev finish : List (HloOp τ sig (Elt F)) :=
  [ unary main_arg4 main_v12 ((transpose S128x128 [1, 0] · transposes_S128x128_S128x128_1_0) : (⟨S128x128, .f32⟩ : BufTy).Contents (Elt F) → (⟨S128x128, .f32⟩ : BufTy).Contents (Elt F)),
    binary main_v11_4 main_v12 main_v13 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S10000x128 ![0, 1] bcast_S1x128_S10000x128_0_1 : (⟨S1x128, .f32⟩ : BufTy).Contents (Elt F) → (⟨S10000x128, .f32⟩ : BufTy).Contents (Elt F)),
    binary main_v13 main_v15 main_v16 (addf : (⟨S10000x128, .f32⟩ : BufTy).Contents (Elt F) → (⟨S10000x128, .f32⟩ : BufTy).Contents (Elt F) → (⟨S10000x128, .f32⟩ : BufTy).Contents (Elt F)),
    binary main_v4 main_v16 main_v17 (mulf : (⟨S10000x128, .f32⟩ : BufTy).Contents (Elt F) → (⟨S10000x128, .f32⟩ : BufTy).Contents (Elt F) → (⟨S10000x128, .f32⟩ : BufTy).Contents (Elt F)) ]
theorem finish_sub : (finish (F := F)).Forall fun op => op.bufs ⊆ tcRefs τ sig :=
  ⟨unary_bufs_sub .., binary_bufs_sub .., unary_bufs_sub .., unary_bufs_sub .., binary_bufs_sub .., binary_bufs_sub ..⟩

abbrev before : List (List (HloOp τ sig (Elt F))) := [hidden, ends, rows, start]

theorem before_plain : Plain (before (F := F)) := Plain.cons hidden_sub (Plain.cons ends_sub (Plain.cons rows_sub (Plain.cons start_sub Plain.nil)))
theorem trip_plain : Plain [trip (F := F)] := Plain.cons trip_sub Plain.nil
theorem finish_plain : Plain [finish (F := F)] := Plain.cons finish_sub Plain.nil

theorem main_eq (d : Dev nD) : main (F := F) d = Pipeline.chain
    (((before (F := F)).map fun ops => (seq ops : Prog _ PUnit)) ++ HostLoop.enter 0 :: [finish (F := F)].map fun ops => (seq ops : Prog _ PUnit)) := rfl
theorem body_eq : main_while0_body (F := F) = Pipeline.chain ([trip (F := F)].map fun ops => (seq ops : Prog _ PUnit)) := rfl

/-! ## Buffer by buffer -/

abbrev ref (b : Ref sig .tc) : DevRef τ sig := Proc.devRef .tc b

/-- The offsets that word arrays of one word each give. -/
abbrev offsets {n : ℕ} (o : Fin n → S_.Idx → BitVec 32) : Fin n → ℤ := fun k => (o k (Shape.Idx.first h_S_)).toInt

/-- A counter as jax indexes with it: a negative one counted from the end, of `n`. -/
abbrev wrapped (n : BitVec 32) (x : S_.Idx → BitVec 32) : S_.Idx → BitVec 32 :=
  select (cmpi .slt x (constantI S_ 32 0#32)) (addi x (constantI S_ 32 n)) x

/-- The target of edge `e`, as the trip reads it. -/
abbrev target (D : S320000.Idx → BitVec 32) (e : S_.Idx → BitVec 32) : S_.Idx → BitVec 32 :=
  shapeCast S_ (Host.dynamicSlice S1 D (offsets ![wrapped 320000#32 e]) sliceFits_S320000_S1) shapeCasts_S1_S_

/-- The products' row at the target times the edge's row, put back. -/
def stepped (D : S320000.Idx → BitVec 32) (X : S320000x128.Idx → F .f32) (e : S_.Idx → BitVec 32) (A : S10000x128.Idx → F .f32) :
    S10000x128.Idx → F .f32 :=
  Host.dynamicUpdateSlice A
    (mulf (Host.dynamicSlice S1x128 A (offsets ![wrapped 10000#32 (target D e), constantI S_ 32 0#32]) sliceFits_S10000x128_S1x128)
      (Host.dynamicSlice S1x128 X (offsets ![wrapped 320000#32 e, constantI S_ 32 0#32]) sliceFits_S320000x128_S1x128))
    (offsets ![wrapped 10000#32 (target D e), constantI S_ 32 0#32]) updateFits_S10000x128_S1x128

theorem trip_ctr (W : Valuation τ sig (Elt F)) : after trip W (ref main_v11_2) = addi (W (ref main_v11_2)) (constantI S_ 32 1#32) := by
  unfold trip ref
  after_reads_simp
  rfl
theorem trip_edge (W : Valuation τ sig (Elt F)) : after trip W (ref main_v11_3) = addi (W (ref main_v11_3)) (constantI S_ 32 1#32) := by
  unfold trip ref
  after_reads_simp
  rfl
theorem trip_prod (W : Valuation τ sig (Elt F)) : after trip W (ref main_v11_4)
    = stepped (W (ref main_v11_0)) (W (ref main_v11_1)) (W (ref main_v11_3)) (W (ref main_v11_4)) := by
  unfold trip ref
  after_reads_simp [unaryIndexed_result_read, binaryIndexed_result_read, indexContents_cons, indexContents_empty, dropContentsCast]
  rfl

theorem trip_v11_0 (W : Valuation τ sig (Elt F)) : after trip W (ref main_v11_0) = W (ref main_v11_0) := by
  unfold trip ref
  after_reads_simp
theorem trip_v11_1 (W : Valuation τ sig (Elt F)) : after trip W (ref main_v11_1) = W (ref main_v11_1) := by
  unfold trip ref
  after_reads_simp
theorem condOps_v11_0 (W : Valuation τ sig (Elt F)) : after condOps W (ref main_v11_0) = W (ref main_v11_0) := by
  unfold condOps ref
  after_reads_simp
theorem condOps_v11_1 (W : Valuation τ sig (Elt F)) : after condOps W (ref main_v11_1) = W (ref main_v11_1) := by
  unfold condOps ref
  after_reads_simp
theorem condOps_v11_2 (W : Valuation τ sig (Elt F)) : after condOps W (ref main_v11_2) = W (ref main_v11_2) := by
  unfold condOps ref
  after_reads_simp
theorem condOps_v11_3 (W : Valuation τ sig (Elt F)) : after condOps W (ref main_v11_3) = W (ref main_v11_3) := by
  unfold condOps ref
  after_reads_simp
theorem condOps_v11_4 (W : Valuation τ sig (Elt F)) : after condOps W (ref main_v11_4) = W (ref main_v11_4) := by
  unfold condOps ref
  after_reads_simp

/-- What neither the condition nor the trip writes. -/
def kept : List (Ref sig .tc) := [main_arg0, main_arg1, main_arg2, main_arg3, main_arg4, main_arg5, main_v4]

theorem trip_kept (W : Valuation τ sig (Elt F)) (b : Ref sig .tc) (h : b ∈ kept) : after trip W (ref b) = W (ref b) := by
  refine StableHlo.after_of_forall_not_mem _ _ ?_
  intro op hop
  fin_cases h <;> fin_cases hop <;> exact fun h => StableHlo.devRef_ne_of_ne (by decide) (Finset.mem_singleton.mp h)
theorem condOps_kept (W : Valuation τ sig (Elt F)) (b : Ref sig .tc) (h : b ∈ kept) : after condOps W (ref b) = W (ref b) := by
  refine StableHlo.after_of_forall_not_mem _ _ ?_
  intro op hop
  fin_cases h <;> fin_cases hop <;> exact fun h => StableHlo.devRef_ne_of_ne (by decide) (Finset.mem_singleton.mp h)

/-! ## The loop -/

variable (m : (ℓ : Loc nD τ sig) → Buf (Elt F) ℓ)

/-- What the loop starts from, and every buffer before the `k`-th run of the condition. -/
abbrev E0 (d : Dev nD) : Valuation τ sig (Elt F) := entryContents before m d
abbrev W0 (d : Dev nD) : Valuation τ sig (Elt F) := after rows (after ends (after hidden (launchContents m d)))
abbrev at_ (k : ℕ) (d : Dev nD) : Valuation τ sig (Elt F) := atTrip condOps [trip] (entryContents before m) k d

theorem at_succ (k : ℕ) (d : Dev nD) : at_ m (k + 1) d = after trip (after condOps (at_ m k d)) := rfl

theorem at_kept (d : Dev nD) (b : Ref sig .tc) (h : b ∈ kept) : ∀ k, at_ m k d (ref b) = E0 m d (ref b)
  | 0 => rfl
  | k + 1 => by rw [at_succ, trip_kept _ b h, condOps_kept _ b h, at_kept d b h k]
theorem at_targets (d : Dev nD) : ∀ k, at_ m k d (ref main_v11_0) = E0 m d (ref main_v11_0)
  | 0 => rfl
  | k + 1 => by rw [at_succ, trip_v11_0, condOps_v11_0, at_targets d k]
theorem at_rows (d : Dev nD) : ∀ k, at_ m k d (ref main_v11_1) = E0 m d (ref main_v11_1)
  | 0 => rfl
  | k + 1 => by rw [at_succ, trip_v11_1, condOps_v11_1, at_rows d k]

theorem add_one (k : ℕ) : addi (fun _ => BitVec.ofNat 32 k : S_.Idx → BitVec 32) (constantI S_ 32 1#32) = fun _ => BitVec.ofNat 32 (k + 1) := by
  funext i
  show BitVec.ofNat 32 k + 1#32 = BitVec.ofNat 32 (k + 1)
  rw [BitVec.ofNat_add]

theorem start_ctr (W : Valuation τ sig (Elt F)) : after start W (ref main_v11_2) = (fun _ => 0#32 : S_.Idx → BitVec 32) := by
  unfold start ref
  after_reads_simp
  rfl
theorem start_edge (W : Valuation τ sig (Elt F)) : after start W (ref main_v11_3) = (fun _ => 0#32 : S_.Idx → BitVec 32) := by
  unfold start ref
  after_reads_simp
  rfl
theorem start_prod (W : Valuation τ sig (Elt F)) : after start W (ref main_v11_4)
    = broadcastInDim S10000x128 ![] bcast_S_S10000x128 (constant S_ .f32 0x3F800000#32) := by
  unfold start ref
  after_reads_simp
  rfl

theorem at_ctr (d : Dev nD) : ∀ k, at_ m k d (ref main_v11_2) = (fun _ => BitVec.ofNat 32 k : S_.Idx → BitVec 32)
  | 0 => start_ctr (W0 m d)
  | k + 1 => by rw [at_succ, trip_ctr, condOps_v11_2, at_ctr d k]; exact add_one k
theorem at_edge (d : Dev nD) : ∀ k, at_ m k d (ref main_v11_3) = (fun _ => BitVec.ofNat 32 k : S_.Idx → BitVec 32)
  | 0 => start_edge (W0 m d)
  | k + 1 => by rw [at_succ, trip_edge, condOps_v11_3, at_edge d k]; exact add_one k
theorem at_prod_succ (d : Dev nD) (k : ℕ) : at_ m (k + 1) d (ref main_v11_4)
    = stepped (E0 m d (ref main_v11_0)) (E0 m d (ref main_v11_1)) (fun _ => BitVec.ofNat 32 k) (at_ m k d (ref main_v11_4)) := by
  rw [at_succ, trip_prod, condOps_v11_0, condOps_v11_1, condOps_v11_3, condOps_v11_4, at_targets, at_rows, at_edge]

/-- The condition's comparison holds for the first 320000 counts. -/
theorem more_iff (k : ℕ) (hk : k ≤ 320000) : IntOp.cmpi .slt (BitVec.ofNat 32 k) 320000#32 = 1#1 ↔ k < 320000 := by
  have h : (BitVec.ofNat 32 k).toInt = (k : ℤ) := by
    rw [BitVec.toInt_eq_toNat_of_lt] <;> rw [BitVec.toNat_ofNat, Nat.mod_eq_of_lt (by omega)]
    omega
  show BitVec.ofBool (decide ((BitVec.ofNat 32 k).toInt < (320000#32).toInt)) = 1#1 ↔ _
  rw [h, show (320000#32).toInt = (320000 : ℤ) from by decide]
  by_cases hlt : k < 320000
  · simp [hlt, show (k : ℤ) < 320000 by omega]
  · simp [hlt, show ¬(k : ℤ) < 320000 by omega]

set_option backward.isDefEq.respectTransparency.types false in
/-- Before trip `k` the condition reads `1` exactly while edges are left. -/
theorem cond_spec : CondSpec (pcfgs (F := F)) defs₀ loops main_while0_cond condOps [trip] (entryContents before m) 320000 := by
  intro k hk d bd
  have hctr := at_ctr m d k
  unfold main_while0_cond
  rw [wp_bind]
  iintro ⟨Hb, Hh⟩
  iapply (StableHlo.wp_hlo_within (Variants.lift Variants.none) (d : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (d : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at_ m k d) (ref main_v11_2) HostLoop.idx0)
        (HloOp.result _ (at_ m k d) (ref main_while0c_c_5) HostLoop.idx0) = 1#1) (k < 320000)
    rw [StableHlo.nullary_result_ne _ _ _ _ (by decide), StableHlo.nullary_result, hctr]
    exact more_iff k hk
  isplitl [Hb]; · iexact Hb
  iexact Hh

/-- The run: every buffer ends at the fold of the operations. -/
theorem run [∀ e, Nonempty (Elt F e)] (ρ : Dev nD → PrngReg) :
    θ_run (defs (F := F)) (onTc (τ := τ) (main (F := F))) ⟨m, fun _ => 0, ρ⟩
      (fun r => ∀ (d : Dev nD) (b : Ref sig .tc), (Proc.devRef .tc b : DevRef τ sig).isScoped = false →
        r.2.mem ((d.tc : Thread nD τ).loc b) = after finish (after condOps (at_ m 320000 d)) (ref b)) :=
  StableHlo.run_loop (pcfgs (F := F)) defs₀ loops main 0 main_while0_cond main_while0_body rfl before [trip] [finish] condOps
    before_plain trip_plain finish_plain main_eq body_eq 320000 m ρ (cond_spec m)

/-! ## What the operations before and after the loop leave -/

/-- A matrix times a transposed weight matrix, and the bias. -/
def affine (x : S10000x128.Idx → F .f32) (w : S128x128.Idx → F .f32) (b : S128.Idx → F .f32) : S10000x128.Idx → F .f32 :=
  addf (Host.dotGeneral dot_S10000x128_S128x128_S10000x128_1_0_0_1_n_n none x (transpose S128x128 [1, 0] w transposes_S128x128_S128x128_1_0))
    (broadcastInDim S10000x128 ![0, 1] bcast_S1x128_S10000x128_0_1 (broadcastInDim S1x128 ![1] bcast_S128_S1x128_1 b))

theorem hidden_v4 (W : Valuation τ sig (Elt F)) : after hidden W (ref main_v4) = affine (W (ref main_arg0)) (W (ref main_arg2)) (W (ref main_arg3)) := by
  unfold hidden ref
  after_reads_simp
  rfl

theorem finish_v17 (W : Valuation τ sig (Elt F)) : after finish W (ref main_v17)
    = mulf (W (ref main_v4)) (affine (W (ref main_v11_4)) (W (ref main_arg4)) (W (ref main_arg5))) := by
  unfold finish ref
  after_reads_simp
  rfl

/-- A row of the edges as a line. -/
abbrev line (o : Fin 2 → ℕ) (h : S2x320000.Slices o S1x320000) (e : S2x320000.Idx → BitVec 32) : S320000.Idx → BitVec 32 :=
  shapeCast S320000 (extractStridedSlice S1x320000 o e h) shapeCasts_S1x320000_S320000

theorem ends_v6 (W : Valuation τ sig (Elt F)) : after ends W (ref main_v6) = line ![0, 0] slices_S2x320000_S1x320000_0_0 (W (ref main_arg1)) := by
  unfold ends ref
  after_reads_simp
  rfl
theorem ends_v8 (W : Valuation τ sig (Elt F)) : after ends W (ref main_v8) = line ![1, 0] slices_S2x320000_S1x320000_1_0 (W (ref main_arg1)) := by
  unfold ends ref
  after_reads_simp
  rfl

/-- The row numbers as a column, negative ones counted from the end. -/
def column (e : S320000.Idx → BitVec 32) : S320000x1.Idx → BitVec 32 :=
  broadcastInDim S320000x1 ![0] bcast_S320000_S320000x1_0
    (select (cmpi .slt e (broadcastInDim S320000 ![] bcast_S_S320000 (constantI S_ 32 0#32)))
      (addi e (broadcastInDim S320000 ![] bcast_S_S320000 (constantI S_ 32 10000#32))) e)

/-- Which of them are rows of the table. -/
def inside (e : S320000.Idx → BitVec 32) : S320000.Idx → BitVec 1 :=
  Host.reduce IntOp.andi (andi (cmpi .sge (column e) (broadcastInDim S320000x1 ![] bcast_S_S320000x1 (constantI S_ 32 0#32)))
    (cmpi .sle (column e) (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- The rows taken, a row outside the table replaced by not-a-number. -/
def taken (x : S10000x128.Idx → F .f32) (e : S320000.Idx → BitVec 32) : S320000x128.Idx → F .f32 :=
  select (broadcastInDim S320000x128 ![0] bcast_S320000_S320000x128_0 (inside e))
    (Host.gather gather_S10000x128_S320000x1_S320000x128_1_0_n_n_0_1_1128 x (column e))
    (broadcastInDim S320000x128 ![] bcast_S_S320000x128 (constant S_ .f32 0x7FC00000#32))

set_option maxRecDepth 20000 in
theorem rows_v9 (W : Valuation τ sig (Elt F)) : after rows W (ref main_v9) = taken (W (ref main_arg0)) (W (ref main_v6)) := by
  unfold rows ref
  after_reads_simp
  simp only [TRef.ofBuf_toBuf]
  simp -implicitDefEqProofs only [TRef.toBuf, TRef.ofBuf, cast_eq]
  rfl

theorem start_v11_0 (W : Valuation τ sig (Elt F)) : after start W (ref main_v11_0) = W (ref main_v8) := by
  unfold start ref
  after_reads_simp
  rfl
theorem start_v11_1 (W : Valuation τ sig (Elt F)) : after start W (ref main_v11_1) = W (ref main_v9) := by
  unfold start ref
  after_reads_simp
  rfl

end Cert.Reference

end
-- ==== Proof.ReferenceValue.lean ====
/-
  The reference's result, element by element: trip `k` of its loop multiplies edge `k`'s row into its target's row, so after
  all trips a row holds the product of the rows of the edges that point to it (`products`); a row of the table is taken
  where the edges say (`taken_apply`); around them stand the two biased products with the weights (`affine_apply`).
-/
module

public import proofs.«01_k».proof.Proof.Reference
public import Idealize.ShloMosaic.Lib.Routing.Ops
public import Idealize.ShloMosaic.Lib.Routing.OpsPair
public import Idealize.ShloMosaic.Lib.ReduceAll
public import Idealize.ShloMosaic.Lib.Pointwise
public import Idealize.ShloMosaic.Lib.ValueIdx

@[expose] public section

noncomputable section

namespace Cert.Reference

open Cert.ReferenceIdeal Cert.ReferenceIdeal.Gen
open Idealize.ShloMosaic Idealize.ShloMosaic.TcCoe Idealize.ShloMosaic.StableHlo
open Idealize.SL.Sem
open scoped BigOperators

/-! ## One row read and one row written -/

section Rows

variable {α : Type} {R C : ℕ}

theorem row_read (X : (⟨2, ![R, C]⟩ : Shape).Idx → α) (o : Fin 2 → ℤ) (h : (⟨2, ![R, C]⟩ : Shape).Slices (fun _ => 0) ⟨2, ![1, C]⟩)
    (k : ℕ) (hk : k < R) (h0 : o 0 = k) (h1 : o 1 = 0) (a : Fin 1) (c : Fin C) :
    Host.dynamicSlice ⟨2, ![1, C]⟩ X o h (ix2 a c) = X (ix2 ⟨k, hk⟩ c) := by
  rw [Host.dynamicSlice_apply]
  refine congrArg X (funext fun b => Fin.ext ?_)
  match b with
  | ⟨0, _⟩ =>
    have hs := Host.clampedStart_of_le (s := ⟨2, ![R, C]⟩) (t := ⟨2, ![1, C]⟩) h.1 o 0 k h0 (show k + 1 ≤ R by omega)
    show Host.clampedStart _ _ h.1 o 0 + a.val = k
    rw [hs]; omega
  | ⟨1, _⟩ =>
    have hs := Host.clampedStart_of_le (s := ⟨2, ![R, C]⟩) (t := ⟨2, ![1, C]⟩) h.1 o 1 0 h1 (show 0 + C ≤ C by omega)
    show Host.clampedStart _ _ h.1 o 1 + c.val = c.val
    rw [hs]; omega

theorem row_write (X : (⟨2, ![R, C]⟩ : Shape).Idx → α) (u : (⟨2, ![1, C]⟩ : Shape).Idx → α) (o : Fin 2 → ℤ)
    (h : (⟨2, ![R, C]⟩ : Shape).Slices (fun _ => 0) ⟨2, ![1, C]⟩)
    (k : ℕ) (hk : k < R) (h0 : o 0 = k) (h1 : o 1 = 0) (r : Fin R) (c : Fin C) :
    Host.dynamicUpdateSlice X u o h (ix2 r c) = if r.val = k then u (ix2 0 c) else X (ix2 r c) := by
  have s0 := Host.clampedStart_of_le (s := ⟨2, ![R, C]⟩) (t := ⟨2, ![1, C]⟩) h.1 o 0 k h0 (show k + 1 ≤ R by omega)
  have s1 := Host.clampedStart_of_le (s := ⟨2, ![R, C]⟩) (t := ⟨2, ![1, C]⟩) h.1 o 1 0 h1 (show 0 + C ≤ C by omega)
  rw [Host.dynamicUpdateSlice_apply]
  by_cases hr : r.val = k
  · rw [if_pos hr, dif_pos]
    · refine congrArg u (funext fun b => Fin.ext ?_)
      match b with
      | ⟨0, _⟩ => show r.val - Host.clampedStart _ _ h.1 o 0 = 0; rw [s0]; omega
      | ⟨1, _⟩ => show c.val - Host.clampedStart _ _ h.1 o 1 = c.val; rw [s1]; omega
    · intro b
      match b with
      | ⟨0, _⟩ => show Host.clampedStart _ _ h.1 o 0 ≤ r.val ∧ r.val < Host.clampedStart _ _ h.1 o 0 + 1; rw [s0]; omega
      | ⟨1, _⟩ =>
        have := c.isLt
        show Host.clampedStart _ _ h.1 o 1 ≤ c.val ∧ c.val < Host.clampedStart _ _ h.1 o 1 + C; rw [s1]; omega
  · rw [if_neg hr, dif_neg]
    intro hin
    have h2 : Host.clampedStart ⟨2, ![R, C]⟩ ⟨2, ![1, C]⟩ h.1 o 0 ≤ r.val
        ∧ r.val < Host.clampedStart ⟨2, ![R, C]⟩ ⟨2, ![1, C]⟩ h.1 o 0 + 1 := hin 0
    rw [s0] at h2
    omega

theorem word_read {n : ℕ} (X : (⟨1, ![n]⟩ : Shape).Idx → α) (o : Fin 1 → ℤ) (h : (⟨1, ![n]⟩ : Shape).Slices (fun _ => 0) ⟨1, ![1]⟩)
    (k : ℕ) (hk : k < n) (h0 : o 0 = k) (a : Fin 1) : Host.dynamicSlice ⟨1, ![1]⟩ X o h (ix1 a) = X (ix1 ⟨k, hk⟩) := by
  rw [Host.dynamicSlice_apply]
  refine congrArg X (funext fun b => Fin.ext ?_)
  match b with
  | ⟨0, _⟩ =>
    have hs := Host.clampedStart_of_le (s := ⟨1, ![n]⟩) (t := ⟨1, ![1]⟩) h.1 o 0 k h0 (show k + 1 ≤ n by omega)
    show Host.clampedStart _ _ h.1 o 0 + a.val = k
    rw [hs]; omega

end Rows

/-! ## One trip -/

theorem wrapped_eq (n v : BitVec 32) (h : v.toNat < 2 ^ 31) : wrapped n (fun _ => v) = fun _ => v :=
  funext fun _ => Routing.wrap_of_lt v (v + n) h

theorem toInt_small (v : BitVec 32) (h : v.toNat < 2 ^ 31) : v.toInt = (v.toNat : ℤ) :=
  BitVec.toInt_eq_toNat_of_lt (by omega)

theorem target_eq (D : S320000.Idx → BitVec 32) (k : ℕ) (hk : k < 320000) :
    target D (fun _ => BitVec.ofNat 32 k) = fun _ => D (ix1 ⟨k, hk⟩) := by
  have hn : (BitVec.ofNat 32 k).toNat = k := by rw [BitVec.toNat_ofNat]; omega
  unfold target
  rw [wrapped_eq _ _ (by omega)]
  funext i
  have h0 : offsets ![(fun _ => BitVec.ofNat 32 k : S_.Idx → BitVec 32)] 0 = (k : ℤ) := by
    show (BitVec.ofNat 32 k).toInt = _
    rw [toInt_small _ (by omega), hn]
  have h := word_read D _ sliceFits_S320000_S1 k hk h0 0
  generalize Host.dynamicSlice S1 D (offsets ![(fun _ => BitVec.ofNat 32 k : S_.Idx → BitVec 32)]) sliceFits_S320000_S1 = y at h
  refine (Eq.trans ?_ h : _)
  exact congrArg y (funext fun a => by
    match a with
    | ⟨0, _⟩ => exact Subsingleton.elim (α := Fin 1) _ _)

theorem stepped_apply {F : FTy → Type} [FloatOps F] (D : S320000.Idx → BitVec 32) (X : S320000x128.Idx → F .f32) (A : S10000x128.Idx → F .f32)
    (k : ℕ) (hk : k < 320000) (hD : (D (ix1 ⟨k, hk⟩)).toNat < 10000) (r : Fin 10000) (c : Fin 128) :
    stepped D X (fun _ => BitVec.ofNat 32 k) A (ix2 r c)
      = if r.val = (D (ix1 ⟨k, hk⟩)).toNat then FloatOps.mulf (A (ix2 r c)) (X (ix2 ⟨k, hk⟩ c)) else A (ix2 r c) := by
  have hn : (BitVec.ofNat 32 k).toNat = k := by rw [BitVec.toNat_ofNat]; omega
  unfold stepped
  rw [target_eq D k hk, wrapped_eq _ _ (by omega), wrapped_eq _ _ (by omega)]
  generalize D (ix1 ⟨k, hk⟩) = v at hD
  have e0 : offsets ![(fun _ => v : S_.Idx → BitVec 32), constantI S_ 32 0#32] 0 = (v.toNat : ℤ) := toInt_small v (by omega)
  have e1 : offsets ![(fun _ => v : S_.Idx → BitVec 32), constantI S_ 32 0#32] 1 = 0 := show (0#32 : BitVec 32).toInt = 0 from rfl
  have f0 : offsets ![(fun _ => BitVec.ofNat 32 k : S_.Idx → BitVec 32), constantI S_ 32 0#32] 0 = (k : ℤ) := by
    show (BitVec.ofNat 32 k).toInt = _
    rw [toInt_small _ (by omega), hn]
  have f1 : offsets ![(fun _ => BitVec.ofNat 32 k : S_.Idx → BitVec 32), constantI S_ 32 0#32] 1 = 0 := show (0#32 : BitVec 32).toInt = 0 from rfl
  refine (row_write A _ _ updateFits_S10000x128_S1x128 v.toNat hD e0 e1 r c).trans ?_
  by_cases hr : r.val = v.toNat
  · rw [if_pos hr, if_pos hr]
    refine congrArg₂ FloatOps.mulf ((row_read A _ _ v.toNat hD e0 e1 0 c).trans ?_) (row_read X _ _ k hk f0 f1 0 c)
    exact congrArg (fun q => A (ix2 q c)) (Fin.ext hr.symm)
  · rw [if_neg hr, if_neg hr]

/-! ## All trips -/

section Loop

variable (m : (ℓ : Loc nD τ sig) → Buf (Elt Ideal) ℓ) (d : Dev nD)

/-- The edges before edge `k` that point to row `r`. -/
def earlier (D : S320000.Idx → BitVec 32) (k : ℕ) (r : Fin 10000) : Finset (Fin 320000) :=
  Finset.univ.filter fun e => e.val < k ∧ (D (ix1 e)).toNat = r.val

theorem earlier_succ (D : S320000.Idx → BitVec 32) (k : ℕ) (hk : k < 320000) (r : Fin 10000) (f : Fin 320000 → EReal) :
    ∏ e ∈ earlier D (k + 1) r, f e
      = if r.val = (D (ix1 ⟨k, hk⟩)).toNat then (∏ e ∈ earlier D k r, f e) * f ⟨k, hk⟩ else ∏ e ∈ earlier D k r, f e := by
  by_cases hr : r.val = (D (ix1 ⟨k, hk⟩)).toNat
  · have h : earlier D (k + 1) r = insert ⟨k, hk⟩ (earlier D k r) := by
      ext e
      simp only [earlier, Finset.mem_filter, Finset.mem_univ, true_and, Finset.mem_insert]
      constructor
      · rintro ⟨h1, h2⟩
        by_cases he : e.val = k
        · exact Or.inl (Fin.ext he)
        · exact Or.inr ⟨by omega, h2⟩
      · rintro (h | ⟨h1, h2⟩)
        · subst h; exact ⟨Nat.lt_succ_self k, hr.symm⟩
        · exact ⟨by omega, h2⟩
    rw [if_pos hr, h, Finset.prod_insert (by simp [earlier]), mul_comm]
  · have h : earlier D (k + 1) r = earlier D k r := by
      ext e
      simp only [earlier, Finset.mem_filter, Finset.mem_univ, true_and]
      constructor
      · rintro ⟨h1, h2⟩
        refine ⟨?_, h2⟩
        by_contra hlt
        have he : e = ⟨k, hk⟩ := Fin.ext (by show e.val = k; omega)
        subst he
        exact hr h2.symm
      · rintro ⟨h1, h2⟩
        exact ⟨by omega, h2⟩
    rw [if_neg hr, h]

/-- The edges' targets and their rows, as the loop finds them. -/
def targetsOf : S320000.Idx → BitVec 32 := E0 m d (ref main_v11_0)
def rowsOf : S320000x128.Idx → EReal := E0 m d (ref main_v11_1)

/-- After `k` trips a row holds the product of the earlier edges' rows. -/
theorem products (hD : ∀ e, (targetsOf m d (ix1 e)).toNat < 10000) (r : Fin 10000) (c : Fin 128) :
    ∀ k, k ≤ 320000 → (at_ m k d (ref main_v11_4) : S10000x128.Idx → EReal) (ix2 r c)
      = ∏ e ∈ earlier (targetsOf m d) k r, rowsOf m d (ix2 e c)
  | 0, _ => by
    have h : earlier (targetsOf m d) 0 r = ∅ := by ext e; simp [earlier]
    rw [h, Finset.prod_empty]
    refine (congrFun (start_prod (W0 m d)) (ix2 r c)).trans ?_
    exact Ideal.ofBits_one_f32
  | k + 1, hk => by
    rw [earlier_succ _ k (by omega), at_prod_succ]
    refine (stepped_apply _ _ _ k (by omega) (hD _) r c).trans ?_
    rw [products hD r c k (by omega)]
    rfl

end Loop

/-! ## The rows taken -/

section Taken

variable {F : FTy → Type} [FloatOps F] (e : S320000.Idx → BitVec 32) (he : ∀ j, (e j).toNat < 10000)

include he in
theorem column_apply (r : Fin 320000) (u : Fin 1) : column e (ix2 r u) = e (ix1 r) := by
  have h := he (ix1 r)
  unfold column
  pointwise
  exact Routing.wrap_of_lt _ _ (by omega)

theorem in_range_word (v : BitVec 32) (h : v.toNat < 10000) : IntOp.andi (IntOp.cmpi .sge v 0#32) (IntOp.cmpi .sle v 9999#32) = 1#1 := by
  have h1 : BitVec.sle 0#32 v = true := by
    rw [BitVec.sle_eq_decide]
    simp only [BitVec.toInt_eq_toNat_cond, BitVec.toNat_ofNat, decide_eq_true_eq]
    omega
  have h2 : BitVec.sle v 9999#32 = true := by
    rw [BitVec.sle_eq_decide]
    simp only [BitVec.toInt_eq_toNat_cond, BitVec.toNat_ofNat, decide_eq_true_eq]
    omega
  simp only [IntOp.cmpi, h1, h2]; rfl

include he in
theorem inside_apply (j : S320000.Idx) : inside e j = 1#1 := by
  have hc := column_apply e he
  unfold inside
  generalize column e = x at hc
  refine Host.reduce_andi_one _ (constantI S_ 1 1#1) reducesTo_S320000x1_S320000_d1 h_S_ j rfl ?_
  intro i
  obtain ⟨a, b, rfl⟩ : ∃ (a : Fin 320000) (b : Fin 1), i = ix2 a b := ⟨i 0, i 1, ValueIdx.eq_ix2 i⟩
  have hc := hc a b
  pointwise
  rw [hc]
  exact in_range_word _ (he _)

include he in
theorem taken_apply (x : S10000x128.Idx → F .f32) (r : Fin 320000) (c : Fin 128) :
    taken x e (ix2 r c) = x (ix2 ⟨(e (ix1 r)).toNat, he _⟩ c) := by
  have hw : BitVec.ofNat 32 (e (ix1 r)).toNat = e (ix1 r) := by simp
  have hg := Routing.gather_row gather_S10000x128_S320000x1_S320000x128_1_0_n_n_0_1_1128 rfl rfl rfl rfl rfl x (column e) r c
    ⟨(e (ix1 r)).toNat, he _⟩ ((column_apply e he r 0).trans hw.symm) (by decide)
  have hok := inside_apply e he
  unfold taken
  generalize Host.gather gather_S10000x128_S320000x1_S320000x128_1_0_n_n_0_1_1128 x (column e) = g at hg
  generalize inside e = k at hok
  pointwise
  rw [hok]
  exact hg

end Taken

/-- A biased product over the extended reals. -/
theorem affine_apply (x : S10000x128.Idx → EReal) (w : S128x128.Idx → EReal) (b : S128.Idx → EReal) (r : Fin 10000) (l : Fin 128) :
    affine (F := Ideal) x w b (ix2 r l) = ∑ k, x (ix2 r k) * w (ix2 l k) + b (ix1 l) := by
  unfold affine
  pointwise

/-! ## What the operations leave as it is -/

section Kept

variable {F : FTy → Type} [FloatOps F] (W : Valuation τ sig (Elt F)) (b : Ref sig .tc)

def args : List (Ref sig .tc) := [main_arg0, main_arg1, main_arg2, main_arg3, main_arg4, main_arg5]

theorem hidden_kept (h : b ∈ args) : after hidden W (ref b) = W (ref b) := by
  refine StableHlo.after_of_forall_not_mem _ _ ?_
  intro op hop
  fin_cases h <;> fin_cases hop <;> exact fun h => StableHlo.devRef_ne_of_ne (by decide) (Finset.mem_singleton.mp h)
theorem ends_kept (h : b ∈ main_v4 :: args) : after ends W (ref b) = W (ref b) := by
  refine StableHlo.after_of_forall_not_mem _ _ ?_
  intro op hop
  fin_cases h <;> fin_cases hop <;> exact fun h => StableHlo.devRef_ne_of_ne (by decide) (Finset.mem_singleton.mp h)
theorem rows_kept (h : b ∈ main_v8 :: main_v4 :: args) : after rows W (ref b) = W (ref b) := by
  refine StableHlo.after_of_forall_not_mem _ _ ?_
  intro op hop
  fin_cases h <;> fin_cases hop <;> exact fun h => StableHlo.devRef_ne_of_ne (by decide) (Finset.mem_singleton.mp h)
theorem start_kept (h : b ∈ main_v4 :: args) : after start W (ref b) = W (ref b) := by
  refine StableHlo.after_of_forall_not_mem _ _ ?_
  intro op hop
  fin_cases h <;> fin_cases hop <;> exact fun h => StableHlo.devRef_ne_of_ne (by decide) (Finset.mem_singleton.mp h)
theorem finish_kept (h : b ∈ args) : after finish W (ref b) = W (ref b) := by
  refine StableHlo.after_of_forall_not_mem _ _ ?_
  intro op hop
  fin_cases h <;> fin_cases hop <;> exact fun h => StableHlo.devRef_ne_of_ne (by decide) (Finset.mem_singleton.mp h)

theorem args_kept (h : b ∈ args) : b ∈ kept := by
  fin_cases h <;> decide

variable (m : (ℓ : Loc nD τ sig) → Buf (Elt F) ℓ) (d : Dev nD)

/-- What every buffer ends at. -/
abbrev last : Valuation τ sig (Elt F) := after finish (after condOps (at_ m 320000 d))

theorem E0_arg (h : b ∈ args) : E0 m d (ref b) = m ((d.tc : Thread nD τ).loc b) := by
  show after start (after rows (after ends (after hidden (launchContents m d)))) (ref b) = _
  rw [start_kept _ _ (List.mem_cons_of_mem _ h), rows_kept _ _ (List.mem_cons_of_mem _ (List.mem_cons_of_mem _ h)),
    ends_kept _ _ (List.mem_cons_of_mem _ h), hidden_kept _ _ h]

theorem last_arg (h : b ∈ args) : last m d (ref b) = m ((d.tc : Thread nD τ).loc b) := by
  show after finish (after condOps (at_ m 320000 d)) (ref b) = _
  rw [finish_kept _ _ h, condOps_kept _ _ (args_kept _ h), at_kept m d _ (args_kept _ h), E0_arg _ _ _ h]

/-- The arguments, read at their shapes. -/
def x_ : S10000x128.Idx → F .f32 := m ((d.tc : Thread nD τ).loc main_arg0)
def edges_ : S2x320000.Idx → BitVec 32 := m ((d.tc : Thread nD τ).loc main_arg1)
def W1_ : S128x128.Idx → F .f32 := m ((d.tc : Thread nD τ).loc main_arg2)
def b1_ : S128.Idx → F .f32 := m ((d.tc : Thread nD τ).loc main_arg3)
def W2_ : S128x128.Idx → F .f32 := m ((d.tc : Thread nD τ).loc main_arg4)
def b2_ : S128.Idx → F .f32 := m ((d.tc : Thread nD τ).loc main_arg5)

theorem E0_v4 : E0 m d (ref main_v4) = affine (x_ m d) (W1_ m d) (b1_ m d) := by
  show after start (after rows (after ends (after hidden (launchContents m d)))) (ref main_v4) = _
  rw [start_kept _ _ (by decide), rows_kept _ _ (by decide), ends_kept _ _ (by decide), hidden_v4]
  rfl

theorem E0_targets : E0 m d (ref main_v11_0) = line ![1, 0] slices_S2x320000_S1x320000_1_0 (edges_ m d) := by
  show after start (after rows (after ends (after hidden (launchContents m d)))) (ref main_v11_0) = _
  rw [start_v11_0, rows_kept _ _ (by decide), ends_v8, hidden_kept _ _ (by decide)]
  rfl

theorem E0_rows : E0 m d (ref main_v11_1) = taken (x_ m d) (line ![0, 0] slices_S2x320000_S1x320000_0_0 (edges_ m d)) := by
  show after start (after rows (after ends (after hidden (launchContents m d)))) (ref main_v11_1) = _
  rw [start_v11_1, rows_v9, ends_v6, ends_kept _ _ (by decide), hidden_kept _ _ (by decide), hidden_kept _ _ (by decide)]
  rfl

theorem last_v17 : last m d (ref main_v17) = mulf (affine (x_ m d) (W1_ m d) (b1_ m d)) (affine (at_ m 320000 d (ref main_v11_4)) (W2_ m d) (b2_ m d)) := by
  show after finish (after condOps (at_ m 320000 d)) (ref main_v17) = _
  rw [finish_v17, condOps_kept _ _ (by decide), at_kept m d _ (by decide), E0_v4, condOps_v11_4, condOps_kept _ _ (by decide), condOps_kept _ _ (by decide),
    at_kept m d main_arg4 (by decide), at_kept m d main_arg5 (by decide), E0_arg _ _ _ (by decide), E0_arg _ _ _ (by decide)]
  rfl

end Kept

theorem line_apply (o : Fin 2 → ℕ) (h : S2x320000.Slices o S1x320000) (e : S2x320000.Idx → BitVec 32) (i : Fin 2) (h0 : o 0 = i.val) (h1 : o 1 = 0)
    (r : Fin 320000) : line o h e (ix1 r) = e (ix2 i r) := by
  unfold line
  pointwise
  refine congrArg e (funext fun a => Fin.ext ?_)
  match a with
  | ⟨0, _⟩ => exact h0
  | ⟨1, _⟩ => show o 1 + r.val = r.val; omega

/-! ## The result -/

/-- The product of the rows that the edges to row `r` name, column `c`. -/
def prodAt (x : S10000x128.Idx → EReal) (edges : S2x320000.Idx → BitVec 32) (he : ∀ j, (edges j).toNat < 10000) (r : Fin 10000) (c : Fin 128) : EReal :=
  ∏ e ∈ Finset.univ.filter (fun e : Fin 320000 => (edges (ix2 1 e)).toNat = r.val), x (ix2 ⟨(edges (ix2 0 e)).toNat, he _⟩ c)

variable (m : (ℓ : Loc nD τ sig) → Buf (Elt Ideal) ℓ) (d : Dev nD)

/-- The rows' products after all trips. -/
def productsOf : S10000x128.Idx → EReal := at_ m 320000 d (ref main_v11_4)

theorem prod_apply (he : ∀ j, (edges_ m d j).toNat < 10000) (r : Fin 10000) (c : Fin 128) :
    productsOf m d (ix2 r c) = prodAt (x_ m d) (edges_ m d) he r c := by
  have ht : ∀ e, targetsOf m d (ix1 e) = edges_ m d (ix2 1 e) := fun e =>
    (congrFun (E0_targets m d) (ix1 e)).trans (line_apply _ _ _ 1 rfl rfl e)
  have hl : ∀ e, line ![0, 0] slices_S2x320000_S1x320000_0_0 (edges_ m d) (ix1 e) = edges_ m d (ix2 0 e) := line_apply _ _ _ 0 rfl rfl
  have hs : ∀ j, (line ![0, 0] slices_S2x320000_S1x320000_0_0 (edges_ m d) j).toNat < 10000 := fun j => by
    obtain ⟨a, rfl⟩ : ∃ a : Fin 320000, j = ix1 a := ⟨j 0, ValueIdx.eq_ix1 j⟩
    rw [hl]; exact he _
  have hr : ∀ e, rowsOf m d (ix2 e c) = x_ m d (ix2 ⟨(edges_ m d (ix2 0 e)).toNat, he _⟩ c) := fun e =>
    ((congrFun (E0_rows m d) (ix2 e c)).trans (taken_apply _ hs (x_ m d) e c)).trans
      (congrArg (fun q => x_ m d (ix2 q c)) (Fin.ext (congrArg BitVec.toNat (hl e))))
  have hp : productsOf m d (ix2 r c) = ∏ e ∈ earlier (targetsOf m d) 320000 r, rowsOf m d (ix2 e c) :=
    products m d (fun e => by rw [ht]; exact he _) r c 320000 le_rfl
  refine hp.trans ?_
  unfold prodAt
  refine Finset.prod_congr ?_ fun e _ => hr e
  ext e
  simp only [earlier, Finset.mem_filter, Finset.mem_univ, true_and, ht]
  exact ⟨fun h => h.2, fun h => ⟨e.isLt, h⟩⟩

/-- Row `r`, column `l` of the result. -/
def cellAt (x : S10000x128.Idx → EReal) (W1 : S128x128.Idx → EReal) (b1 : S128.Idx → EReal) (P : Fin 10000 → Fin 128 → EReal)
    (W2 : S128x128.Idx → EReal) (b2 : S128.Idx → EReal) (r : Fin 10000) (l : Fin 128) : EReal :=
  (∑ k, x (ix2 r k) * W1 (ix2 l k) + b1 (ix1 l)) * (∑ k, P r k * W2 (ix2 l k) + b2 (ix1 l))

theorem result_apply (he : ∀ j, (edges_ m d j).toNat < 10000) (r : Fin 10000) (l : Fin 128) :
    (last m d (ref main_v17) : S10000x128.Idx → EReal) (ix2 r l)
      = cellAt (x_ m d) (W1_ m d) (b1_ m d) (prodAt (x_ m d) (edges_ m d) he) (W2_ m d) (b2_ m d) r l := by
  refine (congrFun (last_v17 m d) (ix2 r l)).trans ?_
  refine congrArg₂ (fun a b : EReal => a * b) (affine_apply _ _ _ r l) ((affine_apply _ _ _ r l).trans ?_)
  refine congrArg (fun s : EReal => s + b2_ m d (ix1 l)) (Finset.sum_congr rfl fun k _ => ?_)
  exact congrArg (fun a : EReal => a * W2_ m d (ix2 l k)) (prod_apply m d he r k)

end Cert.Reference
-- ==== Proof.Readings.lean ====
/-
  The program as printed over machine floats and the program as printed for the extended reals are one text: their body
  tables and their threads are equal over any floats. What is proved of the one therefore holds of the other.
-/
module

public import proofs.«01_k».proof.Proof.Gen.Kernel
public import proofs.«01_k».proof.Proof.Gen.KernelIdeal

@[expose] public section

noncomputable section

namespace Cert.Readings

open Idealize.ShloMosaic Idealize.SL.Sem

variable {F : FTy → Type} [FloatOps F]

theorem prep_body : Cert.Kernel.cc0__prep_body (F := F) = Cert.KernelIdeal.cc0__prep_body (F := F) := by
  with_unfolding_all rfl

theorem prep_label (a) : Cert.Kernel.defs₀ (F := F) .tc 0 a = Cert.KernelIdeal.defs₀ (F := F) .tc 0 a := by
  obtain ⟨t, s⟩ := a
  simp only [Cert.Kernel.defs₀, Cert.KernelIdeal.defs₀]
  rw [prep_body]
  rfl

theorem post_label (a) : Cert.Kernel.defs₀ (F := F) .tc 2 a = Cert.KernelIdeal.defs₀ (F := F) .tc 2 a := by
  obtain ⟨t, s⟩ := a
  rfl

theorem gather_label (c s a) : Cert.Kernel.defs₀ (F := F) (.scVector c s) 1 a = Cert.KernelIdeal.defs₀ (F := F) (.scVector c s) 1 a := rfl

/-- A statement about each of the three labels, shown label by label. -/
theorem of_labels (P : Fin 3 → Prop) (h0 : P 0) (h1 : P 1) (h2 : P 2) : ∀ l, P l
  | 0 => h0
  | 1 => h1
  | 2 => h2

theorem bodies : Cert.Kernel.defs₀ (F := F) = Cert.KernelIdeal.defs₀ (F := F) := by
  funext k l
  revert l
  cases k with
  | tc => exact of_labels _ (funext prep_label) rfl (funext post_label)
  | scScalar c => exact fun _ => rfl
  | scVector c s => exact of_labels _ rfl (funext (gather_label c s)) rfl

theorem defs_eq : Cert.Kernel.defs (F := F) = Cert.KernelIdeal.defs (F := F) :=
  congrArg (fun t => (Cert.KernelIdeal.sc (F := F)).defs (Pipeline.defs Cert.KernelIdeal.pcfgs t)) bodies

set_option maxHeartbeats 2000000 in
theorem main_eq : Cert.Kernel.main (F := F) = Cert.KernelIdeal.main (F := F) := by
  funext d
  with_reducible_and_instances unfold Cert.Kernel.main
  unfold Cert.KernelIdeal.main
  rfl

theorem threads_eq : Cert.Kernel.threads (F := F) = Cert.KernelIdeal.threads (F := F) :=
  congrArg (fun t => (Cert.KernelIdeal.sc (F := F)).threads t) main_eq

theorem run_eq (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q := by
  rw [defs_eq, threads_eq]
  exact h

end Cert.Readings

end
-- ==== Proof.Whole.lean ====
/-
  The claims of the whole program: its frame in both readings of the floats, the reference's frame, and that over the
  extended reals both end with equal results.
-/
module

public import proofs.«01_k».proof.Defs
public import proofs.«01_k».proof.Proof.KernelSums
public import proofs.«01_k».proof.Proof.ReferenceValue
public import proofs.«01_k».proof.Proof.Readings
public import proofs.«01_k».proof.Proof.Gen.Kernel
public import proofs.«01_k».proof.Proof.Gen.Kernel.Skeleton
public import proofs.«01_k».proof.Proof.Gen.Pre_edges_in_range

@[expose] public section

noncomputable section

namespace Cert.Gathering

open Idealize.ShloMosaic Idealize.ShloMosaic.TcCoe Idealize.SL.Sem

/-! ## The precondition -/

theorem word_of_pre (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section Range

open Cert.Pre_edges_in_range Cert.Pre_edges_in_range.Gen

theorem fn_in_range {F : FTy → Type} [FloatOps F] (x : FVec F S10000x128 .f32) (e : IVec S2x320000 32) (W1 : FVec F S128x128 .f32)
    (b1 : FVec F S128 .f32) (W2 : FVec F S128x128 .f32) (b2 : FVec F S128 .f32)
    (h : Pre_edges_in_range.fn x e W1 b1 W2 b2 = fun _ => 1#1) (j : S2x320000.Idx) : BitVec.toNat (e j) < 10000 := by
  have h := congrFun h j
  simp only [Pre_edges_in_range.fn, andi, cmpi, broadcastInDim, constantI] at h
  exact word_of_pre _ h

end Range

section Kernel

open Cert.KernelIdeal

variable {F : FTy → Type} [FloatOps F] (m : (ℓ : Loc nD τ sig) → Buf (Elt F) ℓ)

theorem in_range (h : ∀ d : Dev nD, Pre_edges_in_range.fn (a0 m d) (a1 m d) (a2 m d) (a3 m d) (a4 m d) (a5 m d) = fun _ => 1#1) : InRange m :=
  fun d y => fn_in_range _ _ _ _ _ _ (h d) y

/-- A run of the program leaves its arguments as they were. -/
theorem args_unchanged (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h.1 c _ (mem_Su main_arg0 rfl)).trans (arg0_eq m c), (h.1 c _ (mem_Su main_arg1 rfl)).trans (arg1_eq m c),
    (h.1 c _ (mem_Su main_arg2 rfl)).trans (arg2_eq m c), (h.1 c _ (mem_Su main_arg3 rfl)).trans (arg3_eq m c),
    (h.1 c _ (mem_Su main_arg4 rfl)).trans (arg4_eq m c), (h.1 c _ (mem_Su main_arg5 rfl)).trans (arg5_eq m c)⟩

end Kernel

/-! ## The claims -/

theorem frame_ideal : Cert.quiescent_KernelIdeal (hKernelIdeal := Cert.KernelIdeal.Gen.facts) (hPre_edges_in_range := Cert.Pre_edges_in_range.Gen.facts) := by
  intro m ρ hp
  exact (θ_run _ _ _).mono (fun r h => ⟨args_unchanged m r h, h.2⟩) (run_all m ρ (preOK (in_range m hp)))

theorem frame_bits : Cert.quiescent_Kernel (hKernel := Cert.Kernel.Gen.facts) (hPre_edges_in_range := Cert.Pre_edges_in_range.Gen.facts) := by
  intro m ρ hp
  refine Cert.Readings.run_eq (F := Bits) ⟨m, fun _ => 0, ρ⟩ _ ?_
  exact (θ_run _ _ _).mono (fun r h => ⟨args_unchanged (F := Bits) m r h, h.2⟩) (run_all (F := Bits) m ρ (preOK (in_range m hp)))

/-- A run of the reference leaves its arguments as they were. -/
theorem reference_args (m : (ℓ : Loc Cert.ReferenceIdeal.nD Cert.ReferenceIdeal.τ Cert.ReferenceIdeal.sig) → Buf (Elt Ideal) ℓ)
    (r : PUnit × MemSt Cert.ReferenceIdeal.nD Cert.ReferenceIdeal.τ Cert.ReferenceIdeal.sig (Elt Ideal))
    (h : ∀ (d : Dev Cert.ReferenceIdeal.nD) (b : Ref Cert.ReferenceIdeal.sig .tc), (Proc.devRef .tc b : DevRef Cert.ReferenceIdeal.τ Cert.ReferenceIdeal.sig).isScoped = false →
      r.2.mem ((d.tc : Thread Cert.ReferenceIdeal.nD Cert.ReferenceIdeal.τ).loc b) = Cert.Reference.last m d (Cert.Reference.ref b))
    (d : Dev Cert.ReferenceIdeal.nD) (b : Ref Cert.ReferenceIdeal.sig .tc) (hb : b ∈ Cert.Reference.args)
    (hu : (Proc.devRef .tc b : DevRef Cert.ReferenceIdeal.τ Cert.ReferenceIdeal.sig).isScoped = false) :
    r.2.mem ((d.tc : Thread Cert.ReferenceIdeal.nD Cert.ReferenceIdeal.τ).loc b) = m ((d.tc : Thread Cert.ReferenceIdeal.nD Cert.ReferenceIdeal.τ).loc b) :=
  (h d b hu).trans (Cert.Reference.last_arg b m d hb)

theorem frame_whole_reference : Cert.quiescent_ReferenceIdeal (hReferenceIdeal := Cert.ReferenceIdeal.Gen.facts)
    (hPre_edges_in_range := Cert.Pre_edges_in_range.Gen.facts) := by
  intro m ρ _
  refine (θ_run _ _ _).mono (fun r h => ⟨fun c => ⟨?_, ?_, ?_, ?_, ?_, ?_⟩, sem_eq_zero_of_no_sems rfl r.2⟩) (Cert.Reference.run m ρ)
  all_goals exact reference_args m r h c _ (by decide) rfl

/-- The reference's element depends on the argument arrays alone; the sum over the edges written out. -/
theorem cell_congr {x x' : Cert.KernelIdeal.S10000x128.Idx → EReal} {e e' : Cert.KernelIdeal.S2x320000.Idx → BitVec 32} {W1 W1' W2 W2' : Cert.KernelIdeal.S128x128.Idx → EReal}
    {b1 b1' b2 b2' : Cert.KernelIdeal.S128.Idx → EReal}
    (hx : x' = x) (he : e' = e) (hW1 : W1' = W1) (hb1 : b1' = b1) (hW2 : W2' = W2) (hb2 : b2' = b2)
    (hr' : ∀ j, (e' j).toNat < 10000) (hr : ∀ j, (e j).toNat < 10000) (r : Fin 10000) (l : Fin 128) :
    Cert.Reference.cellAt x' W1' b1' (Cert.Reference.prodAt x' e' hr') W2' b2' r l
      = (∑ k, x (ix2 r k) * W1 (ix2 l k) + b1 (ix1 l))
        * (∑ k, (∏ i ∈ Finset.univ.filter (fun i : Fin 320000 => (e (ix2 1 i)).toNat = r.val), x (ix2 ⟨(e (ix2 0 i)).toNat, hr _⟩ k)) * W2 (ix2 l k) + b2 (ix1 l)) := by
  subst hx he hW1 hb1 hW2 hb2
  rfl

/-- The program and the reference end with equal results. -/
theorem algebraic_whole : Cert.algebraic_KernelIdeal_ReferenceIdeal (hKernelIdeal := Cert.KernelIdeal.Gen.facts)
    (hReferenceIdeal := Cert.ReferenceIdeal.Gen.facts) (hPre_edges_in_range := Cert.Pre_edges_in_range.Gen.facts) := by
  intro m ρ m' ρ' hp hm
  have hr := in_range m hp
  refine ⟨fun c => combined m c, ?_, ?_⟩
  · exact (θ_run _ _ _).mono (fun r h c => ⟨(h.1 c _ (mem_Su Cert.KernelIdeal.main_v41 rfl)).trans (V4_eq m c), args_unchanged m r h c⟩)
      (run_all m ρ (preOK hr))
  · refine (θ_run _ _ _).mono (fun r h c => ⟨?_, ?_, ?_, ?_, ?_, ?_, ?_⟩) (Cert.Reference.run m' ρ')
    · obtain ⟨h0, h1, h2, h3, h4, h5⟩ := hm c
      have h0 : Cert.Reference.x_ m' c = a0 m c := h0
      have h1 : Cert.Reference.edges_ m' c = a1 m c := h1
      have h2 : Cert.Reference.W1_ m' c = a2 m c := h2
      have h3 : Cert.Reference.b1_ m' c = a3 m c := h3
      have h4 : Cert.Reference.W2_ m' c = a4 m c := h4
      have h5 : Cert.Reference.b2_ m' c = a5 m c := h5
      have he : ∀ j, (Cert.Reference.edges_ m' c j).toNat < 10000 := fun j => by rw [h1]; exact hr c j
      refine (h c Cert.ReferenceIdeal.main_v17 rfl).trans ?_
      funext i
      obtain ⟨r, l, rfl⟩ : ∃ (r : Fin 10000) (l : Fin 128), i = ix2 r l := ⟨i 0, i 1, ValueIdx.eq_ix2 i⟩
      refine (Cert.Reference.result_apply m' c he r l).trans (Eq.trans ?_ (combined_apply c hr r l).symm)
      exact cell_congr h0 h1 h2 h3 h4 h5 he (hr c) r l
    all_goals exact reference_args m' r h c _ (by decide) rfl

end Cert.Gathering

end
-- ==== Proof.lean ====
module

public import proofs.«01_k».proof.Defs
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineReferenceIdeal
public import proofs.«01_k».proof.Proof.Gen.Kernel
public import proofs.«01_k».proof.Proof.Gen.KernelIdeal
public import proofs.«01_k».proof.Proof.Gen.ReferenceIdeal
public import proofs.«01_k».proof.Proof.Gen.Pre_edges_in_range
public import proofs.«01_k».proof.Proof.Combine
public import proofs.«01_k».proof.Proof.Whole
public import Idealize.ShloMosaic.Adequacy
public import Idealize.ShloMosaic.Init

@[expose] public section

noncomputable section

namespace Cert.Proof

open Idealize.ShloMosaic Idealize.SL.Sem

/-- `Cert.Claim` (Defs.lean): the frames of the programs and their references, the idealizations, the equality of results. -/
theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts, Cert.Pre_edges_in_range.Gen.facts,
  Cert.Gathering.frame_bits, Cert.Gathering.frame_ideal, Cert.Gathering.frame_whole_reference,
  fun m ρ _ => Cert.Combine.Gen.frame m ρ, fun m ρ _ => Cert.CombineIdeal.Gen.frame m ρ, Cert.Combining.frame_reference,
  trivial, Cert.Gathering.algebraic_whole, trivial, Cert.Combining.algebraic⟩

end Cert.Proof

end
